-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_rows [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_rows [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_idx_in_rows : Cert.Pre_idx_in_rows.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_ReferenceIdeal (hReferenceIdeal := hReferenceIdeal)
    ∧ quiescent_ReferenceIdeal_pre_idx_in_rows (hReferenceIdeal := hReferenceIdeal) (hPre_idx_in_rows := hPre_idx_in_rows)
    ∧ preserves_Kernel_KernelIdeal
    ∧ algebraic_KernelIdeal_ReferenceIdeal (hKernelIdeal := hKernelIdeal) (hReferenceIdeal := hReferenceIdeal) (hPre_idx_in_rows := hPre_idx_in_rows)
-- ==== Pre_idx_in_rows.lean ====
abbrev S2x10000x128 : Shape := ⟨3, ![2, 10000, 128]⟩
abbrev S160000x2 : Shape := ⟨2, ![160000, 2]⟩
abbrev S_ : Shape := ⟨0, ![]⟩

class Facts : Prop where
  bcast_S_S160000x2 : S_.BroadcastsInDim S160000x2 (![] : Fin 0 → Fin S160000x2.rank)
  reducesTo_S160000x2_S_d0_1 : S160000x2.ReducesTo [0, 1] S_
  h_S_ : 0 < S_.numel

variable [Facts]

def fn {F : FTy → Type} [FloatOps F] (main_arg0 : FVec F S2x10000x128 .f32) (main_arg1 : IVec S160000x2 32) : IVec S_ 1 :=
  let main_c : IVec S_ 32 := constantI S_ 32 0#32
  let main_v0 : IVec S160000x2 32 := broadcastInDim S160000x2 ![] bcast_S_S160000x2 main_c
  let main_v1 : IVec S160000x2 1 := cmpi .sge main_arg1 main_v0
  let main_c_0 : IVec S_ 32 := constantI S_ 32 10000#32
  let main_v2 : IVec S160000x2 32 := broadcastInDim S160000x2 ![] bcast_S_S160000x2 main_c_0
  let main_v3 : IVec S160000x2 1 := cmpi .slt main_arg1 main_v2
  let main_v4 : IVec S160000x2 1 := andi main_v1 main_v3
  let main_c_1 : IVec S_ 1 := constantI S_ 1 1#1
  let main_v5 : IVec S_ 1 := (fun x v => Host.reduce IntOp.andi x v reducesTo_S160000x2_S_d0_1 h_S_) main_v4 main_c_1
  main_v5
-- ==== Kernel.lean ====
abbrev S2x10000x128 : Shape := ⟨3, ![2, 10000, 128]⟩
abbrev S160000x2 : Shape := ⟨2, ![160000, 2]⟩
abbrev S32x125x80 : Shape := ⟨3, ![32, 125, 80]⟩
abbrev S_ : Shape := ⟨0, ![]⟩
abbrev S32x125x1x80 : Shape := ⟨4, ![32, 125, 1, 80]⟩
abbrev S32x125x2x80 : Shape := ⟨4, ![32, 125, 2, 80]⟩
abbrev S32x250x80 : Shape := ⟨3, ![32, 250, 80]⟩
abbrev S20000x128 : Shape := ⟨2, ![20000, 128]⟩
abbrev S340000x128 : Shape := ⟨2, ![340000, 128]⟩
abbrev S250x80 : Shape := ⟨2, ![250, 80]⟩
abbrev S4x80x128 : Shape := ⟨3, ![4, 80, 128]⟩
abbrev S4x40x128 : Shape := ⟨3, ![4, 40, 128]⟩
abbrev S4 : Shape := ⟨1, ![4]⟩
abbrev S80x128 : Shape := ⟨2, ![80, 128]⟩
abbrev S1x250x80 : Shape := ⟨3, ![1, 250, 80]⟩
abbrev S1x80x128 : Shape := ⟨3, ![1, 80, 128]⟩
abbrev S1x80 : Shape := ⟨2, ![1, 80]⟩
abbrev S80 : Shape := ⟨1, ![80]⟩
abbrev S1 : Shape := ⟨1, ![1]⟩
abbrev S1x40x128 : Shape := ⟨3, ![1, 40, 128]⟩
abbrev S40x128 : Shape := ⟨2, ![40, 128]⟩
abbrev S1x1x16 : Shape := ⟨3, ![1, 1, 16]⟩
abbrev S16 : Shape := ⟨1, ![16]⟩
abbrev S2x170000x128 : Shape := ⟨3, ![2, 170000, 128]⟩

abbrev nBuf : Table → Nat
  | .hbm => 13
  | .local .scVector .vmem => 3
  | _ => 0

abbrev bufTy : (tb : Table) → Fin (nBuf tb) → BufTy
  | .hbm, ⟨0, _⟩ => ⟨S2x10000x128, .f32⟩
  | .hbm, ⟨1, _⟩ => ⟨S160000x2, .i32⟩
  | .hbm, ⟨2, _⟩ => ⟨S32x125x80, .i32⟩
  | .hbm, ⟨3, _⟩ => ⟨S_, .i32⟩
  | .hbm, ⟨4, _⟩ => ⟨S32x125x80, .i32⟩
  | .hbm, ⟨5, _⟩ => ⟨S32x125x80, .i32⟩
  | .hbm, ⟨6, _⟩ => ⟨S32x125x1x80, .i32⟩
  | .hbm, ⟨7, _⟩ => ⟨S32x125x1x80, .i32⟩
  | .hbm, ⟨8, _⟩ => ⟨S32x125x2x80, .i32⟩
  | .hbm, ⟨9, _⟩ => ⟨S32x250x80, .i32⟩
  | .hbm, ⟨10, _⟩ => ⟨S20000x128, .f32⟩
  | .hbm, ⟨11, _⟩ => ⟨S340000x128, .f32⟩
  | .hbm, ⟨12, _⟩ => ⟨S2x170000x128, .f32⟩
  | .local .scVector .vmem, ⟨0, _⟩ => ⟨S250x80, .i32⟩
  | .local .scVector .vmem, ⟨1, _⟩ => ⟨S4x80x128, .f32⟩
  | .local .scVector .vmem, ⟨2, _⟩ => ⟨S4x40x128, .f32⟩
  | _, _ => ⟨S2x10000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v7_scv : Ref sig .scVector := ⟨.hbm, 10, rfl⟩
abbrev main_v6_scv : Ref sig .scVector := ⟨.hbm, 9, rfl⟩
abbrev main_v8_scv : Ref sig .scVector := ⟨.hbm, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 32 := Scalar.addi v1 c0_i32
  let c125_i32 : BitVec 32 := 125#32
  let v7 : BitVec 1 := Scalar.cmpi .slt v2 c125_i32
  let v8 : BitVec 32 := Scalar.extui v7
  let c0_i32_3 : BitVec 32 := 0#32
  let v9 : BitVec 1 := Scalar.cmpi .ne v8 c0_i32_3
  v9

def k0_off1 (i : grid0.Coords) : Fin 2 → Nat :=
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 32 := Scalar.addi v1 c0_i32
  let c80_i32_1 : BitVec 32 := 80#32
  let v5 : BitVec 32 := Scalar.muli v2 c80_i32_1
  let v6 : BitVec 32 := Scalar.addi c0_i32_2 v5
  let c0_i32_178 : BitVec 32 := 0#32
  ![v6.toNat, 0]
def k0_off2 (i : grid0.Coords) : Fin 2 → Nat :=
  let c0_i32_0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 32 := Scalar.addi v1 c0_i32
  let c80_i32 : BitVec 32 := 80#32
  let v3 : BitVec 32 := Scalar.muli v2 c80_i32
  let v4 : BitVec 32 := Scalar.addi c0_i32_0 v3
  let c0_i32_179 : BitVec 32 := 0#32
  ![v4.toNat, 0]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v10 : BitVec 32 := Scalar.addi v1 c32_i32
  let c125_i32_8 : BitVec 32 := 125#32
  let v15 : BitVec 1 := Scalar.cmpi .slt v10 c125_i32_8
  let v16 : BitVec 32 := Scalar.extui v15
  let c0_i32_9 : BitVec 32 := 0#32
  let v17 : BitVec 1 := Scalar.cmpi .ne v16 c0_i32_9
  v17

def k0_off3 (i : grid0.Coords) : Fin 2 → Nat :=
  let c0_i32_7 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v10 : BitVec 32 := Scalar.addi v1 c32_i32
  let c80_i32_6 : BitVec 32 := 80#32
  let v13 : BitVec 32 := Scalar.muli v10 c80_i32_6
  let v14 : BitVec 32 := Scalar.addi c0_i32_7 v13
  let c0_i32_178 : BitVec 32 := 0#32
  ![v14.toNat, 0]
def k0_off4 (i : grid0.Coords) : Fin 2 → Nat :=
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v10 : BitVec 32 := Scalar.addi v1 c32_i32
  let c80_i32_4 : BitVec 32 := 80#32
  let v11 : BitVec 32 := Scalar.muli v10 c80_i32_4
  let v12 : BitVec 32 := Scalar.addi c0_i32_5 v11
  let c0_i32_179 : BitVec 32 := 0#32
  ![v12.toNat, 0]
def k0_cond3 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v18 : BitVec 32 := Scalar.addi v1 c64_i32
  let c125_i32_14 : BitVec 32 := 125#32
  let v23 : BitVec 1 := Scalar.cmpi .slt v18 c125_i32_14
  let v24 : BitVec 32 := Scalar.extui v23
  let c0_i32_15 : BitVec 32 := 0#32
  let v25 : BitVec 1 := Scalar.cmpi .ne v24 c0_i32_15
  v25

def k0_off5 (i : grid0.Coords) : Fin 2 → Nat :=
  let c0_i32_13 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v18 : BitVec 32 := Scalar.addi v1 c64_i32
  let c80_i32_12 : BitVec 32 := 80#32
  let v21 : BitVec 32 := Scalar.muli v18 c80_i32_12
  let v22 : BitVec 32 := Scalar.addi c0_i32_13 v21
  let c0_i32_178 : BitVec 32 := 0#32
  ![v22.toNat, 0]
def k0_off6 (i : grid0.Coords) : Fin 2 → Nat :=
  let c0_i32_11 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v18 : BitVec 32 := Scalar.addi v1 c64_i32
  let c80_i32_10 : BitVec 32 := 80#32
  let v19 : BitVec 32 := Scalar.muli v18 c80_i32_10
  let v20 : BitVec 32 := Scalar.addi c0_i32_11 v19
  let c0_i32_179 : BitVec 32 := 0#32
  ![v20.toNat, 0]
def k0_cond4 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v26 : BitVec 32 := Scalar.addi v1 c96_i32
  let c125_i32_20 : BitVec 32 := 125#32
  let v31 : BitVec 1 := Scalar.cmpi .slt v26 c125_i32_20
  let v32 : BitVec 32 := Scalar.extui v31
  let c0_i32_21 : BitVec 32 := 0#32
  let v33 : BitVec 1 := Scalar.cmpi .ne v32 c0_i32_21
  v33

def k0_off7 (i : grid0.Coords) : Fin 2 → Nat :=
  let c0_i32_19 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v26 : BitVec 32 := Scalar.addi v1 c96_i32
  let c80_i32_18 : BitVec 32 := 80#32
  let v29 : BitVec 32 := Scalar.muli v26 c80_i32_18
  let v30 : BitVec 32 := Scalar.addi c0_i32_19 v29
  let c0_i32_178 : BitVec 32 := 0#32
  ![v30.toNat, 0]
def k0_off8 (i : grid0.Coords) : Fin 2 → Nat :=
  let c0_i32_17 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v26 : BitVec 32 := Scalar.addi v1 c96_i32
  let c80_i32_16 : BitVec 32 := 80#32
  let v27 : BitVec 32 := Scalar.muli v26 c80_i32_16
  let v28 : BitVec 32 := Scalar.addi c0_i32_17 v27
  let c0_i32_179 : BitVec 32 := 0#32
  ![v28.toNat, 0]
def k0_cond5 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22 : BitVec 32 := 0#32
  let v34 : BitVec 32 := Scalar.addi v1 c0_i32_22
  let c125_i32_25 : BitVec 32 := 125#32
  let v39 : BitVec 1 := Scalar.cmpi .slt v34 c125_i32_25
  let v40 : BitVec 32 := Scalar.extui v39
  let c0_i32_26 : BitVec 32 := 0#32
  let v41 : BitVec 1 := Scalar.cmpi .ne v40 c0_i32_26
  v41

def k0_off9 (i : grid0.Coords) : Fin 2 → Nat :=
  let c170000_i32 : BitVec 32 := 170000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22 : BitVec 32 := 0#32
  let v34 : BitVec 32 := Scalar.addi v1 c0_i32_22
  let c80_i32_24 : BitVec 32 := 80#32
  let v37 : BitVec 32 := Scalar.muli v34 c80_i32_24
  let v38 : BitVec 32 := Scalar.addi c170000_i32 v37
  let c0_i32_178 : BitVec 32 := 0#32
  ![v38.toNat, 0]
def k0_off10 (i : grid0.Coords) : Fin 2 → Nat :=
  let c10000_i32 : BitVec 32 := 10000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22 : BitVec 32 := 0#32
  let v34 : BitVec 32 := Scalar.addi v1 c0_i32_22
  let c80_i32_23 : BitVec 32 := 80#32
  let v35 : BitVec 32 := Scalar.muli v34 c80_i32_23
  let v36 : BitVec 32 := Scalar.addi c10000_i32 v35
  let c0_i32_179 : BitVec 32 := 0#32
  ![v36.toNat, 0]
def k0_cond6 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_27 : BitVec 32 := 32#32
  let v42 : BitVec 32 := Scalar.addi v1 c32_i32_27
  let c125_i32_32 : BitVec 32 := 125#32
  let v47 : BitVec 1 := Scalar.cmpi .slt v42 c125_i32_32
  let v48 : BitVec 32 := Scalar.extui v47
  let c0_i32_33 : BitVec 32 := 0#32
  let v49 : BitVec 1 := Scalar.cmpi .ne v48 c0_i32_33
  v49

def k0_off11 (i : grid0.Coords) : Fin 2 → Nat :=
  let c170000_i32_31 : BitVec 32 := 170000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_27 : BitVec 32 := 32#32
  let v42 : BitVec 32 := Scalar.addi v1 c32_i32_27
  let c80_i32_30 : BitVec 32 := 80#32
  let v45 : BitVec 32 := Scalar.muli v42 c80_i32_30
  let v46 : BitVec 32 := Scalar.addi c170000_i32_31 v45
  let c0_i32_178 : BitVec 32 := 0#32
  ![v46.toNat, 0]
def k0_off12 (i : grid0.Coords) : Fin 2 → Nat :=
  let c10000_i32_29 : BitVec 32 := 10000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_27 : BitVec 32 := 32#32
  let v42 : BitVec 32 := Scalar.addi v1 c32_i32_27
  let c80_i32_28 : BitVec 32 := 80#32
  let v43 : BitVec 32 := Scalar.muli v42 c80_i32_28
  let v44 : BitVec 32 := Scalar.addi c10000_i32_29 v43
  let c0_i32_179 : BitVec 32 := 0#32
  ![v44.toNat, 0]
def k0_cond7 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_34 : BitVec 32 := 64#32
  let v50 : BitVec 32 := Scalar.addi v1 c64_i32_34
  let c125_i32_39 : BitVec 32 := 125#32
  let v55 : BitVec 1 := Scalar.cmpi .slt v50 c125_i32_39
  let v56 : BitVec 32 := Scalar.extui v55
  let c0_i32_40 : BitVec 32 := 0#32
  let v57 : BitVec 1 := Scalar.cmpi .ne v56 c0_i32_40
  v57

def k0_off13 (i : grid0.Coords) : Fin 2 → Nat :=
  let c170000_i32_38 : BitVec 32 := 170000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_34 : BitVec 32 := 64#32
  let v50 : BitVec 32 := Scalar.addi v1 c64_i32_34
  let c80_i32_37 : BitVec 32 := 80#32
  let v53 : BitVec 32 := Scalar.muli v50 c80_i32_37
  let v54 : BitVec 32 := Scalar.addi c170000_i32_38 v53
  let c0_i32_178 : BitVec 32 := 0#32
  ![v54.toNat, 0]
def k0_off14 (i : grid0.Coords) : Fin 2 → Nat :=
  let c10000_i32_36 : BitVec 32 := 10000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_34 : BitVec 32 := 64#32
  let v50 : BitVec 32 := Scalar.addi v1 c64_i32_34
  let c80_i32_35 : BitVec 32 := 80#32
  let v51 : BitVec 32 := Scalar.muli v50 c80_i32_35
  let v52 : BitVec 32 := Scalar.addi c10000_i32_36 v51
  let c0_i32_179 : BitVec 32 := 0#32
  ![v52.toNat, 0]
def k0_cond8 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32_41 : BitVec 32 := 96#32
  let v58 : BitVec 32 := Scalar.addi v1 c96_i32_41
  let c125_i32_46 : BitVec 32 := 125#32
  let v63 : BitVec 1 := Scalar.cmpi .slt v58 c125_i32_46
  let v64 : BitVec 32 := Scalar.extui v63
  let c0_i32_47 : BitVec 32 := 0#32
  let v65 : BitVec 1 := Scalar.cmpi .ne v64 c0_i32_47
  v65

def k0_off15 (i : grid0.Coords) : Fin 2 → Nat :=
  let c170000_i32_45 : BitVec 32 := 170000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32_41 : BitVec 32 := 96#32
  let v58 : BitVec 32 := Scalar.addi v1 c96_i32_41
  let c80_i32_44 : BitVec 32 := 80#32
  let v61 : BitVec 32 := Scalar.muli v58 c80_i32_44
  let v62 : BitVec 32 := Scalar.addi c170000_i32_45 v61
  let c0_i32_178 : BitVec 32 := 0#32
  ![v62.toNat, 0]
def k0_off16 (i : grid0.Coords) : Fin 2 → Nat :=
  let c10000_i32_43 : BitVec 32 := 10000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32_41 : BitVec 32 := 96#32
  let v58 : BitVec 32 := Scalar.addi v1 c96_i32_41
  let c80_i32_42 : BitVec 32 := 80#32
  let v59 : BitVec 32 := Scalar.muli v58 c80_i32_42
  let v60 : BitVec 32 := Scalar.addi c10000_i32_43 v59
  let c0_i32_179 : BitVec 32 := 0#32
  ![v60.toNat, 0]
def k0_off17 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_178_r0 : BitVec 32 := 0#32
  let c0_i32_179_r0 : BitVec 32 := 0#32
  ![v1.toNat, 0, 0]
@[reducible] def k0_t1_loop : Scf.Loop 32 :=
  let c0_i32_78 : BitVec 32 := 0#32
  let c125_i32_79 : BitVec 32 := 125#32
  let v94 : BitVec 32 := Scalar.addi c0_i32_78 c125_i32_79
  let c1_i32_80 : BitVec 32 := 1#32
  ⟨c0_i32_78, v94, c1_i32_80⟩
def k0_off18 (k0_t1 : Fin k0_t1_loop.trips) (c0_i32_180 : BitVec 32) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let v193 : BitVec 32 := Scalar.addi v192 c0_i32_180
  let c3_i32_181 : BitVec 32 := 3#32
  let v194 : BitVec 32 := Scalar.andi v193 c3_i32_181
  let c0_i32_185 : BitVec 32 := 0#32
  let c0_i32_186 : BitVec 32 := 0#32
  ![v194.toNat, 0, 0]
def k0_off19 (k0_t1 : Fin k0_t1_loop.trips) (c0_i32_180 : BitVec 32) : Fin 1 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let v193 : BitVec 32 := Scalar.addi v192 c0_i32_180
  let c3_i32_181 : BitVec 32 := 3#32
  let v194 : BitVec 32 := Scalar.andi v193 c3_i32_181
  ![v194.toNat]
def k0_cond9 (k0_t1 : Fin k0_t1_loop.trips) : BitVec 1 :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c4_i32 : BitVec 32 := 4#32
  let v204 : BitVec 1 := Scalar.cmpi .sge v193 c4_i32
  let v205 : BitVec 32 := Scalar.extui v204
  let c0_i32_190 : BitVec 32 := 0#32
  let v206 : BitVec 1 := Scalar.cmpi .ne v205 c0_i32_190
  v206

def k0_off20 (k0_t1 : Fin k0_t1_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let c0_i32_234 : BitVec 32 := 0#32
  let c0_i32_235 : BitVec 32 := 0#32
  ![v194.toNat, 0, 0]
def k0_off21 (k0_t1 : Fin k0_t1_loop.trips) : Fin 1 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  ![v194.toNat]
@[reducible] def k0_t2_loop : Scf.Loop 32 :=
  let c0_i32_191 : BitVec 32 := 0#32
  let c40_i32 : BitVec 32 := 40#32
  let v207 : BitVec 32 := Scalar.addi c0_i32_191 c40_i32
  let c1_i32_192 : BitVec 32 := 1#32
  ⟨c0_i32_191, v207, c1_i32_192⟩
def k0_off22 (k0_t1 : Fin k0_t1_loop.trips) (k0_t2 : Fin k0_t2_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let v262 : Index := Scalar.indexCast v194
  let c2_i32_236 : BitVec 32 := 2#32
  let c0_i32_235 : BitVec 32 := 0#32
  let c0_i32_191 : BitVec 32 := 0#32
  let c1_i32_192 : BitVec 32 := 1#32
  let arg12 : BitVec 32 := Scf.iv c0_i32_191 c1_i32_192 k0_t2
  let c1_i32_234 : BitVec 32 := 1#32
  let v259 : BitVec 32 := Scalar.muli arg12 c1_i32_234
  let v260 : BitVec 32 := Scalar.addi c0_i32_235 v259
  let v261 : BitVec 32 := Scalar.muli c2_i32_236 v260
  let v263 : Index := Scalar.indexCast v261
  let c0 : Index := 0#32
  ![v262.toNat, v263.toNat, 0]
def k0_off23 (k0_t1 : Fin k0_t1_loop.trips) (k0_t2 : Fin k0_t2_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let v268 : Index := Scalar.indexCast v194
  let c2_i32_237 : BitVec 32 := 2#32
  let c0_i32_235 : BitVec 32 := 0#32
  let c0_i32_191 : BitVec 32 := 0#32
  let c1_i32_192 : BitVec 32 := 1#32
  let arg12 : BitVec 32 := Scf.iv c0_i32_191 c1_i32_192 k0_t2
  let c1_i32_234 : BitVec 32 := 1#32
  let v259 : BitVec 32 := Scalar.muli arg12 c1_i32_234
  let v260 : BitVec 32 := Scalar.addi c0_i32_235 v259
  let v266 : BitVec 32 := Scalar.muli c2_i32_237 v260
  let c1_i32_238 : BitVec 32 := 1#32
  let v267 : BitVec 32 := Scalar.addi v266 c1_i32_238
  let v269 : Index := Scalar.indexCast v267
  let c0_239 : Index := 0#32
  ![v268.toNat, v269.toNat, 0]
def k0_off24 (k0_t1 : Fin k0_t1_loop.trips) (k0_t2 : Fin k0_t2_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let v275 : Index := Scalar.indexCast v194
  let c0_i32_235 : BitVec 32 := 0#32
  let c0_i32_191 : BitVec 32 := 0#32
  let c1_i32_192 : BitVec 32 := 1#32
  let arg12 : BitVec 32 := Scf.iv c0_i32_191 c1_i32_192 k0_t2
  let c1_i32_234 : BitVec 32 := 1#32
  let v259 : BitVec 32 := Scalar.muli arg12 c1_i32_234
  let v260 : BitVec 32 := Scalar.addi c0_i32_235 v259
  let v276 : Index := Scalar.indexCast v260
  let c0_240 : Index := 0#32
  ![v275.toNat, v276.toNat, 0]
def k0_off25 (k0_t1 : Fin k0_t1_loop.trips) (k0_t2 : Fin k0_t2_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let v281 : Index := Scalar.indexCast v194
  let c2_i32_241 : BitVec 32 := 2#32
  let c0_i32_235 : BitVec 32 := 0#32
  let c0_i32_191 : BitVec 32 := 0#32
  let c1_i32_192 : BitVec 32 := 1#32
  let arg12 : BitVec 32 := Scf.iv c0_i32_191 c1_i32_192 k0_t2
  let c1_i32_234 : BitVec 32 := 1#32
  let v259 : BitVec 32 := Scalar.muli arg12 c1_i32_234
  let v260 : BitVec 32 := Scalar.addi c0_i32_235 v259
  let v280 : BitVec 32 := Scalar.muli c2_i32_241 v260
  let v282 : Index := Scalar.indexCast v280
  let c16 : Index := 16#32
  ![v281.toNat, v282.toNat, 16]
def k0_off26 (k0_t1 : Fin k0_t1_loop.trips) (k0_t2 : Fin k0_t2_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let v287 : Index := Scalar.indexCast v194
  let c2_i32_242 : BitVec 32 := 2#32
  let c0_i32_235 : BitVec 32 := 0#32
  let c0_i32_191 : BitVec 32 := 0#32
  let c1_i32_192 : BitVec 32 := 1#32
  let arg12 : BitVec 32 := Scf.iv c0_i32_191 c1_i32_192 k0_t2
  let c1_i32_234 : BitVec 32 := 1#32
  let v259 : BitVec 32 := Scalar.muli arg12 c1_i32_234
  let v260 : BitVec 32 := Scalar.addi c0_i32_235 v259
  let v285 : BitVec 32 := Scalar.muli c2_i32_242 v260
  let c1_i32_243 : BitVec 32 := 1#32
  let v286 : BitVec 32 := Scalar.addi v285 c1_i32_243
  let v288 : Index := Scalar.indexCast v286
  let c16_244 : Index := 16#32
  ![v287.toNat, v288.toNat, 16]
def k0_off27 (k0_t1 : Fin k0_t1_loop.trips) (k0_t2 : Fin k0_t2_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let v294 : Index := Scalar.indexCast v194
  let c0_i32_235 : BitVec 32 := 0#32
  let c0_i32_191 : BitVec 32 := 0#32
  let c1_i32_192 : BitVec 32 := 1#32
  let arg12 : BitVec 32 := Scf.iv c0_i32_191 c1_i32_192 k0_t2
  let c1_i32_234 : BitVec 32 := 1#32
  let v259 : BitVec 32 := Scalar.muli arg12 c1_i32_234
  let v260 : BitVec 32 := Scalar.addi c0_i32_235 v259
  let v295 : Index := Scalar.indexCast v260
  let c16_246 : Index := 16#32
  ![v294.toNat, v295.toNat, 16]
def k0_off28 (k0_t1 : Fin k0_t1_loop.trips) (k0_t2 : Fin k0_t2_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let v300 : Index := Scalar.indexCast v194
  let c2_i32_247 : BitVec 32 := 2#32
  let c0_i32_235 : BitVec 32 := 0#32
  let c0_i32_191 : BitVec 32 := 0#32
  let c1_i32_192 : BitVec 32 := 1#32
  let arg12 : BitVec 32 := Scf.iv c0_i32_191 c1_i32_192 k0_t2
  let c1_i32_234 : BitVec 32 := 1#32
  let v259 : BitVec 32 := Scalar.muli arg12 c1_i32_234
  let v260 : BitVec 32 := Scalar.addi c0_i32_235 v259
  let v299 : BitVec 32 := Scalar.muli c2_i32_247 v260
  let v301 : Index := Scalar.indexCast v299
  let c32 : Index := 32#32
  ![v300.toNat, v301.toNat, 32]
def k0_off29 (k0_t1 : Fin k0_t1_loop.trips) (k0_t2 : Fin k0_t2_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let v306 : Index := Scalar.indexCast v194
  let c2_i32_248 : BitVec 32 := 2#32
  let c0_i32_235 : BitVec 32 := 0#32
  let c0_i32_191 : BitVec 32 := 0#32
  let c1_i32_192 : BitVec 32 := 1#32
  let arg12 : BitVec 32 := Scf.iv c0_i32_191 c1_i32_192 k0_t2
  let c1_i32_234 : BitVec 32 := 1#32
  let v259 : BitVec 32 := Scalar.muli arg12 c1_i32_234
  let v260 : BitVec 32 := Scalar.addi c0_i32_235 v259
  let v304 : BitVec 32 := Scalar.muli c2_i32_248 v260
  let c1_i32_249 : BitVec 32 := 1#32
  let v305 : BitVec 32 := Scalar.addi v304 c1_i32_249
  let v307 : Index := Scalar.indexCast v305
  let c32_250 : Index := 32#32
  ![v306.toNat, v307.toNat, 32]
def k0_off30 (k0_t1 : Fin k0_t1_loop.trips) (k0_t2 : Fin k0_t2_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let v313 : Index := Scalar.indexCast v194
  let c0_i32_235 : BitVec 32 := 0#32
  let c0_i32_191 : BitVec 32 := 0#32
  let c1_i32_192 : BitVec 32 := 1#32
  let arg12 : BitVec 32 := Scf.iv c0_i32_191 c1_i32_192 k0_t2
  let c1_i32_234 : BitVec 32 := 1#32
  let v259 : BitVec 32 := Scalar.muli arg12 c1_i32_234
  let v260 : BitVec 32 := Scalar.addi c0_i32_235 v259
  let v314 : Index := Scalar.indexCast v260
  let c32_252 : Index := 32#32
  ![v313.toNat, v314.toNat, 32]
def k0_off31 (k0_t1 : Fin k0_t1_loop.trips) (k0_t2 : Fin k0_t2_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let v319 : Index := Scalar.indexCast v194
  let c2_i32_253 : BitVec 32 := 2#32
  let c0_i32_235 : BitVec 32 := 0#32
  let c0_i32_191 : BitVec 32 := 0#32
  let c1_i32_192 : BitVec 32 := 1#32
  let arg12 : BitVec 32 := Scf.iv c0_i32_191 c1_i32_192 k0_t2
  let c1_i32_234 : BitVec 32 := 1#32
  let v259 : BitVec 32 := Scalar.muli arg12 c1_i32_234
  let v260 : BitVec 32 := Scalar.addi c0_i32_235 v259
  let v318 : BitVec 32 := Scalar.muli c2_i32_253 v260
  let v320 : Index := Scalar.indexCast v318
  let c48 : Index := 48#32
  ![v319.toNat, v320.toNat, 48]
def k0_off32 (k0_t1 : Fin k0_t1_loop.trips) (k0_t2 : Fin k0_t2_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let v325 : Index := Scalar.indexCast v194
  let c2_i32_254 : BitVec 32 := 2#32
  let c0_i32_235 : BitVec 32 := 0#32
  let c0_i32_191 : BitVec 32 := 0#32
  let c1_i32_192 : BitVec 32 := 1#32
  let arg12 : BitVec 32 := Scf.iv c0_i32_191 c1_i32_192 k0_t2
  let c1_i32_234 : BitVec 32 := 1#32
  let v259 : BitVec 32 := Scalar.muli arg12 c1_i32_234
  let v260 : BitVec 32 := Scalar.addi c0_i32_235 v259
  let v323 : BitVec 32 := Scalar.muli c2_i32_254 v260
  let c1_i32_255 : BitVec 32 := 1#32
  let v324 : BitVec 32 := Scalar.addi v323 c1_i32_255
  let v326 : Index := Scalar.indexCast v324
  let c48_256 : Index := 48#32
  ![v325.toNat, v326.toNat, 48]
def k0_off33 (k0_t1 : Fin k0_t1_loop.trips) (k0_t2 : Fin k0_t2_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let v332 : Index := Scalar.indexCast v194
  let c0_i32_235 : BitVec 32 := 0#32
  let c0_i32_191 : BitVec 32 := 0#32
  let c1_i32_192 : BitVec 32 := 1#32
  let arg12 : BitVec 32 := Scf.iv c0_i32_191 c1_i32_192 k0_t2
  let c1_i32_234 : BitVec 32 := 1#32
  let v259 : BitVec 32 := Scalar.muli arg12 c1_i32_234
  let v260 : BitVec 32 := Scalar.addi c0_i32_235 v259
  let v333 : Index := Scalar.indexCast v260
  let c48_258 : Index := 48#32
  ![v332.toNat, v333.toNat, 48]
def k0_off34 (k0_t1 : Fin k0_t1_loop.trips) (k0_t2 : Fin k0_t2_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let v338 : Index := Scalar.indexCast v194
  let c2_i32_259 : BitVec 32 := 2#32
  let c0_i32_235 : BitVec 32 := 0#32
  let c0_i32_191 : BitVec 32 := 0#32
  let c1_i32_192 : BitVec 32 := 1#32
  let arg12 : BitVec 32 := Scf.iv c0_i32_191 c1_i32_192 k0_t2
  let c1_i32_234 : BitVec 32 := 1#32
  let v259 : BitVec 32 := Scalar.muli arg12 c1_i32_234
  let v260 : BitVec 32 := Scalar.addi c0_i32_235 v259
  let v337 : BitVec 32 := Scalar.muli c2_i32_259 v260
  let v339 : Index := Scalar.indexCast v337
  let c64 : Index := 64#32
  ![v338.toNat, v339.toNat, 64]
def k0_off35 (k0_t1 : Fin k0_t1_loop.trips) (k0_t2 : Fin k0_t2_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let v344 : Index := Scalar.indexCast v194
  let c2_i32_260 : BitVec 32 := 2#32
  let c0_i32_235 : BitVec 32 := 0#32
  let c0_i32_191 : BitVec 32 := 0#32
  let c1_i32_192 : BitVec 32 := 1#32
  let arg12 : BitVec 32 := Scf.iv c0_i32_191 c1_i32_192 k0_t2
  let c1_i32_234 : BitVec 32 := 1#32
  let v259 : BitVec 32 := Scalar.muli arg12 c1_i32_234
  let v260 : BitVec 32 := Scalar.addi c0_i32_235 v259
  let v342 : BitVec 32 := Scalar.muli c2_i32_260 v260
  let c1_i32_261 : BitVec 32 := 1#32
  let v343 : BitVec 32 := Scalar.addi v342 c1_i32_261
  let v345 : Index := Scalar.indexCast v343
  let c64_262 : Index := 64#32
  ![v344.toNat, v345.toNat, 64]
def k0_off36 (k0_t1 : Fin k0_t1_loop.trips) (k0_t2 : Fin k0_t2_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let v351 : Index := Scalar.indexCast v194
  let c0_i32_235 : BitVec 32 := 0#32
  let c0_i32_191 : BitVec 32 := 0#32
  let c1_i32_192 : BitVec 32 := 1#32
  let arg12 : BitVec 32 := Scf.iv c0_i32_191 c1_i32_192 k0_t2
  let c1_i32_234 : BitVec 32 := 1#32
  let v259 : BitVec 32 := Scalar.muli arg12 c1_i32_234
  let v260 : BitVec 32 := Scalar.addi c0_i32_235 v259
  let v352 : Index := Scalar.indexCast v260
  let c64_264 : Index := 64#32
  ![v351.toNat, v352.toNat, 64]
def k0_off37 (k0_t1 : Fin k0_t1_loop.trips) (k0_t2 : Fin k0_t2_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let v357 : Index := Scalar.indexCast v194
  let c2_i32_265 : BitVec 32 := 2#32
  let c0_i32_235 : BitVec 32 := 0#32
  let c0_i32_191 : BitVec 32 := 0#32
  let c1_i32_192 : BitVec 32 := 1#32
  let arg12 : BitVec 32 := Scf.iv c0_i32_191 c1_i32_192 k0_t2
  let c1_i32_234 : BitVec 32 := 1#32
  let v259 : BitVec 32 := Scalar.muli arg12 c1_i32_234
  let v260 : BitVec 32 := Scalar.addi c0_i32_235 v259
  let v356 : BitVec 32 := Scalar.muli c2_i32_265 v260
  let v358 : Index := Scalar.indexCast v356
  let c80 : Index := 80#32
  ![v357.toNat, v358.toNat, 80]
def k0_off38 (k0_t1 : Fin k0_t1_loop.trips) (k0_t2 : Fin k0_t2_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let v363 : Index := Scalar.indexCast v194
  let c2_i32_266 : BitVec 32 := 2#32
  let c0_i32_235 : BitVec 32 := 0#32
  let c0_i32_191 : BitVec 32 := 0#32
  let c1_i32_192 : BitVec 32 := 1#32
  let arg12 : BitVec 32 := Scf.iv c0_i32_191 c1_i32_192 k0_t2
  let c1_i32_234 : BitVec 32 := 1#32
  let v259 : BitVec 32 := Scalar.muli arg12 c1_i32_234
  let v260 : BitVec 32 := Scalar.addi c0_i32_235 v259
  let v361 : BitVec 32 := Scalar.muli c2_i32_266 v260
  let c1_i32_267 : BitVec 32 := 1#32
  let v362 : BitVec 32 := Scalar.addi v361 c1_i32_267
  let v364 : Index := Scalar.indexCast v362
  let c80_268 : Index := 80#32
  ![v363.toNat, v364.toNat, 80]
def k0_off39 (k0_t1 : Fin k0_t1_loop.trips) (k0_t2 : Fin k0_t2_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let v370 : Index := Scalar.indexCast v194
  let c0_i32_235 : BitVec 32 := 0#32
  let c0_i32_191 : BitVec 32 := 0#32
  let c1_i32_192 : BitVec 32 := 1#32
  let arg12 : BitVec 32 := Scf.iv c0_i32_191 c1_i32_192 k0_t2
  let c1_i32_234 : BitVec 32 := 1#32
  let v259 : BitVec 32 := Scalar.muli arg12 c1_i32_234
  let v260 : BitVec 32 := Scalar.addi c0_i32_235 v259
  let v371 : Index := Scalar.indexCast v260
  let c80_270 : Index := 80#32
  ![v370.toNat, v371.toNat, 80]
def k0_off40 (k0_t1 : Fin k0_t1_loop.trips) (k0_t2 : Fin k0_t2_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let v376 : Index := Scalar.indexCast v194
  let c2_i32_271 : BitVec 32 := 2#32
  let c0_i32_235 : BitVec 32 := 0#32
  let c0_i32_191 : BitVec 32 := 0#32
  let c1_i32_192 : BitVec 32 := 1#32
  let arg12 : BitVec 32 := Scf.iv c0_i32_191 c1_i32_192 k0_t2
  let c1_i32_234 : BitVec 32 := 1#32
  let v259 : BitVec 32 := Scalar.muli arg12 c1_i32_234
  let v260 : BitVec 32 := Scalar.addi c0_i32_235 v259
  let v375 : BitVec 32 := Scalar.muli c2_i32_271 v260
  let v377 : Index := Scalar.indexCast v375
  let c96 : Index := 96#32
  ![v376.toNat, v377.toNat, 96]
def k0_off41 (k0_t1 : Fin k0_t1_loop.trips) (k0_t2 : Fin k0_t2_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let v382 : Index := Scalar.indexCast v194
  let c2_i32_272 : BitVec 32 := 2#32
  let c0_i32_235 : BitVec 32 := 0#32
  let c0_i32_191 : BitVec 32 := 0#32
  let c1_i32_192 : BitVec 32 := 1#32
  let arg12 : BitVec 32 := Scf.iv c0_i32_191 c1_i32_192 k0_t2
  let c1_i32_234 : BitVec 32 := 1#32
  let v259 : BitVec 32 := Scalar.muli arg12 c1_i32_234
  let v260 : BitVec 32 := Scalar.addi c0_i32_235 v259
  let v380 : BitVec 32 := Scalar.muli c2_i32_272 v260
  let c1_i32_273 : BitVec 32 := 1#32
  let v381 : BitVec 32 := Scalar.addi v380 c1_i32_273
  let v383 : Index := Scalar.indexCast v381
  let c96_274 : Index := 96#32
  ![v382.toNat, v383.toNat, 96]
def k0_off42 (k0_t1 : Fin k0_t1_loop.trips) (k0_t2 : Fin k0_t2_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let v389 : Index := Scalar.indexCast v194
  let c0_i32_235 : BitVec 32 := 0#32
  let c0_i32_191 : BitVec 32 := 0#32
  let c1_i32_192 : BitVec 32 := 1#32
  let arg12 : BitVec 32 := Scf.iv c0_i32_191 c1_i32_192 k0_t2
  let c1_i32_234 : BitVec 32 := 1#32
  let v259 : BitVec 32 := Scalar.muli arg12 c1_i32_234
  let v260 : BitVec 32 := Scalar.addi c0_i32_235 v259
  let v390 : Index := Scalar.indexCast v260
  let c96_276 : Index := 96#32
  ![v389.toNat, v390.toNat, 96]
def k0_off43 (k0_t1 : Fin k0_t1_loop.trips) (k0_t2 : Fin k0_t2_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let v395 : Index := Scalar.indexCast v194
  let c2_i32_277 : BitVec 32 := 2#32
  let c0_i32_235 : BitVec 32 := 0#32
  let c0_i32_191 : BitVec 32 := 0#32
  let c1_i32_192 : BitVec 32 := 1#32
  let arg12 : BitVec 32 := Scf.iv c0_i32_191 c1_i32_192 k0_t2
  let c1_i32_234 : BitVec 32 := 1#32
  let v259 : BitVec 32 := Scalar.muli arg12 c1_i32_234
  let v260 : BitVec 32 := Scalar.addi c0_i32_235 v259
  let v394 : BitVec 32 := Scalar.muli c2_i32_277 v260
  let v396 : Index := Scalar.indexCast v394
  let c112 : Index := 112#32
  ![v395.toNat, v396.toNat, 112]
def k0_off44 (k0_t1 : Fin k0_t1_loop.trips) (k0_t2 : Fin k0_t2_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let v401 : Index := Scalar.indexCast v194
  let c2_i32_278 : BitVec 32 := 2#32
  let c0_i32_235 : BitVec 32 := 0#32
  let c0_i32_191 : BitVec 32 := 0#32
  let c1_i32_192 : BitVec 32 := 1#32
  let arg12 : BitVec 32 := Scf.iv c0_i32_191 c1_i32_192 k0_t2
  let c1_i32_234 : BitVec 32 := 1#32
  let v259 : BitVec 32 := Scalar.muli arg12 c1_i32_234
  let v260 : BitVec 32 := Scalar.addi c0_i32_235 v259
  let v399 : BitVec 32 := Scalar.muli c2_i32_278 v260
  let c1_i32_279 : BitVec 32 := 1#32
  let v400 : BitVec 32 := Scalar.addi v399 c1_i32_279
  let v402 : Index := Scalar.indexCast v400
  let c112_280 : Index := 112#32
  ![v401.toNat, v402.toNat, 112]
def k0_off45 (k0_t1 : Fin k0_t1_loop.trips) (k0_t2 : Fin k0_t2_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let v408 : Index := Scalar.indexCast v194
  let c0_i32_235 : BitVec 32 := 0#32
  let c0_i32_191 : BitVec 32 := 0#32
  let c1_i32_192 : BitVec 32 := 1#32
  let arg12 : BitVec 32 := Scf.iv c0_i32_191 c1_i32_192 k0_t2
  let c1_i32_234 : BitVec 32 := 1#32
  let v259 : BitVec 32 := Scalar.muli arg12 c1_i32_234
  let v260 : BitVec 32 := Scalar.addi c0_i32_235 v259
  let v409 : Index := Scalar.indexCast v260
  let c112_282 : Index := 112#32
  ![v408.toNat, v409.toNat, 112]
def k0_cond10 (k0_t1 : Fin k0_t1_loop.trips) : BitVec 1 :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c4_i32_194 : BitVec 32 := 4#32
  let v208 : BitVec 32 := Scalar.addi v193 c4_i32_194
  let c250_i32 : BitVec 32 := 250#32
  let v209 : BitVec 1 := Scalar.cmpi .slt v208 c250_i32
  let v210 : BitVec 32 := Scalar.extui v209
  let c0_i32_195 : BitVec 32 := 0#32
  let v211 : BitVec 1 := Scalar.cmpi .ne v210 c0_i32_195
  v211

def k0_off46 (k0_t1 : Fin k0_t1_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  let c0_i32_235 : BitVec 32 := 0#32
  let c0_i32_236 : BitVec 32 := 0#32
  ![v194.toNat, 0, 0]
def k0_off47 (k0_t1 : Fin k0_t1_loop.trips) : Fin 2 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c4_i32_234 : BitVec 32 := 4#32
  let v259 : BitVec 32 := Scalar.addi v193 c4_i32_234
  let c0_i32_237 : BitVec 32 := 0#32
  ![v259.toNat, 0]
def k0_off48 (k0_t1 : Fin k0_t1_loop.trips) : Fin 1 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c0_i32_180 : BitVec 32 := 0#32
  let v193 : BitVec 32 := Scalar.addi v192 c0_i32_180
  let c3_i32_181 : BitVec 32 := 3#32
  let v194 : BitVec 32 := Scalar.andi v193 c3_i32_181
  ![v194.toNat]
def k0_off49 (k0_t1 : Fin k0_t1_loop.trips) (c0_i32_180 : BitVec 32) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let v193 : BitVec 32 := Scalar.addi v192 c0_i32_180
  let c3_i32_181 : BitVec 32 := 3#32
  let v194 : BitVec 32 := Scalar.andi v193 c3_i32_181
  let c0_i32_199 : BitVec 32 := 0#32
  let c0_i32_200 : BitVec 32 := 0#32
  ![v194.toNat, 0, 0]
def k0_off50 (i : grid0.Coords) (k0_t1 : Fin k0_t1_loop.trips) (c0_i32_180 : BitVec 32) : Fin 2 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let v193 : BitVec 32 := Scalar.addi v192 c0_i32_180
  let c1_i32_182 : BitVec 32 := 1#32
  let v195 : BitVec 32 := Scalar.andi v193 c1_i32_182
  let c170000_i32_196 : BitVec 32 := 170000#32
  let v212 : BitVec 32 := Scalar.muli v195 c170000_i32_196
  let c10000_i32_197 : BitVec 32 := 10000#32
  let v213 : BitVec 32 := Scalar.addi v212 c10000_i32_197
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5000_i32 : BitVec 32 := 5000#32
  let v214 : BitVec 32 := Scalar.muli v1 c5000_i32
  let v215 : BitVec 32 := Scalar.addi v213 v214
  let c1_i32_183 : BitVec 32 := 1#32
  let v196 : BitVec 32 := Scalar.shrui v193 c1_i32_183
  let c40_i32_198 : BitVec 32 := 40#32
  let v216 : BitVec 32 := Scalar.muli v196 c40_i32_198
  let v217 : BitVec 32 := Scalar.addi v215 v216
  let c0_i32_201 : BitVec 32 := 0#32
  ![v217.toNat, 0]
def k0_cond11 (k0_t1 : Fin k0_t1_loop.trips) : BitVec 1 :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c4_i32_215 : BitVec 32 := 4#32
  let v237 : BitVec 1 := Scalar.cmpi .sge v226 c4_i32_215
  let v238 : BitVec 32 := Scalar.extui v237
  let c0_i32_216 : BitVec 32 := 0#32
  let v239 : BitVec 1 := Scalar.cmpi .ne v238 c0_i32_216
  v239

def k0_off51 (k0_t1 : Fin k0_t1_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let c0_i32_234 : BitVec 32 := 0#32
  let c0_i32_235 : BitVec 32 := 0#32
  ![v227.toNat, 0, 0]
def k0_off52 (k0_t1 : Fin k0_t1_loop.trips) : Fin 1 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  ![v227.toNat]
@[reducible] def k0_t3_loop : Scf.Loop 32 :=
  let c0_i32_217 : BitVec 32 := 0#32
  let c40_i32_218 : BitVec 32 := 40#32
  let v240 : BitVec 32 := Scalar.addi c0_i32_217 c40_i32_218
  let c1_i32_219 : BitVec 32 := 1#32
  ⟨c0_i32_217, v240, c1_i32_219⟩
def k0_off53 (k0_t1 : Fin k0_t1_loop.trips) (k0_t3 : Fin k0_t3_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let v262 : Index := Scalar.indexCast v227
  let c2_i32_236 : BitVec 32 := 2#32
  let c0_i32_235 : BitVec 32 := 0#32
  let c0_i32_217 : BitVec 32 := 0#32
  let c1_i32_219 : BitVec 32 := 1#32
  let arg12 : BitVec 32 := Scf.iv c0_i32_217 c1_i32_219 k0_t3
  let c1_i32_234 : BitVec 32 := 1#32
  let v259 : BitVec 32 := Scalar.muli arg12 c1_i32_234
  let v260 : BitVec 32 := Scalar.addi c0_i32_235 v259
  let v261 : BitVec 32 := Scalar.muli c2_i32_236 v260
  let v263 : Index := Scalar.indexCast v261
  let c0 : Index := 0#32
  ![v262.toNat, v263.toNat, 0]
def k0_off54 (k0_t1 : Fin k0_t1_loop.trips) (k0_t3 : Fin k0_t3_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let v268 : Index := Scalar.indexCast v227
  let c2_i32_237 : BitVec 32 := 2#32
  let c0_i32_235 : BitVec 32 := 0#32
  let c0_i32_217 : BitVec 32 := 0#32
  let c1_i32_219 : BitVec 32 := 1#32
  let arg12 : BitVec 32 := Scf.iv c0_i32_217 c1_i32_219 k0_t3
  let c1_i32_234 : BitVec 32 := 1#32
  let v259 : BitVec 32 := Scalar.muli arg12 c1_i32_234
  let v260 : BitVec 32 := Scalar.addi c0_i32_235 v259
  let v266 : BitVec 32 := Scalar.muli c2_i32_237 v260
  let c1_i32_238 : BitVec 32 := 1#32
  let v267 : BitVec 32 := Scalar.addi v266 c1_i32_238
  let v269 : Index := Scalar.indexCast v267
  let c0_239 : Index := 0#32
  ![v268.toNat, v269.toNat, 0]
def k0_off55 (k0_t1 : Fin k0_t1_loop.trips) (k0_t3 : Fin k0_t3_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let v275 : Index := Scalar.indexCast v227
  let c0_i32_235 : BitVec 32 := 0#32
  let c0_i32_217 : BitVec 32 := 0#32
  let c1_i32_219 : BitVec 32 := 1#32
  let arg12 : BitVec 32 := Scf.iv c0_i32_217 c1_i32_219 k0_t3
  let c1_i32_234 : BitVec 32 := 1#32
  let v259 : BitVec 32 := Scalar.muli arg12 c1_i32_234
  let v260 : BitVec 32 := Scalar.addi c0_i32_235 v259
  let v276 : Index := Scalar.indexCast v260
  let c0_240 : Index := 0#32
  ![v275.toNat, v276.toNat, 0]
def k0_off56 (k0_t1 : Fin k0_t1_loop.trips) (k0_t3 : Fin k0_t3_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let v281 : Index := Scalar.indexCast v227
  let c2_i32_241 : BitVec 32 := 2#32
  let c0_i32_235 : BitVec 32 := 0#32
  let c0_i32_217 : BitVec 32 := 0#32
  let c1_i32_219 : BitVec 32 := 1#32
  let arg12 : BitVec 32 := Scf.iv c0_i32_217 c1_i32_219 k0_t3
  let c1_i32_234 : BitVec 32 := 1#32
  let v259 : BitVec 32 := Scalar.muli arg12 c1_i32_234
  let v260 : BitVec 32 := Scalar.addi c0_i32_235 v259
  let v280 : BitVec 32 := Scalar.muli c2_i32_241 v260
  let v282 : Index := Scalar.indexCast v280
  let c16 : Index := 16#32
  ![v281.toNat, v282.toNat, 16]
def k0_off57 (k0_t1 : Fin k0_t1_loop.trips) (k0_t3 : Fin k0_t3_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let v287 : Index := Scalar.indexCast v227
  let c2_i32_242 : BitVec 32 := 2#32
  let c0_i32_235 : BitVec 32 := 0#32
  let c0_i32_217 : BitVec 32 := 0#32
  let c1_i32_219 : BitVec 32 := 1#32
  let arg12 : BitVec 32 := Scf.iv c0_i32_217 c1_i32_219 k0_t3
  let c1_i32_234 : BitVec 32 := 1#32
  let v259 : BitVec 32 := Scalar.muli arg12 c1_i32_234
  let v260 : BitVec 32 := Scalar.addi c0_i32_235 v259
  let v285 : BitVec 32 := Scalar.muli c2_i32_242 v260
  let c1_i32_243 : BitVec 32 := 1#32
  let v286 : BitVec 32 := Scalar.addi v285 c1_i32_243
  let v288 : Index := Scalar.indexCast v286
  let c16_244 : Index := 16#32
  ![v287.toNat, v288.toNat, 16]
def k0_off58 (k0_t1 : Fin k0_t1_loop.trips) (k0_t3 : Fin k0_t3_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let v294 : Index := Scalar.indexCast v227
  let c0_i32_235 : BitVec 32 := 0#32
  let c0_i32_217 : BitVec 32 := 0#32
  let c1_i32_219 : BitVec 32 := 1#32
  let arg12 : BitVec 32 := Scf.iv c0_i32_217 c1_i32_219 k0_t3
  let c1_i32_234 : BitVec 32 := 1#32
  let v259 : BitVec 32 := Scalar.muli arg12 c1_i32_234
  let v260 : BitVec 32 := Scalar.addi c0_i32_235 v259
  let v295 : Index := Scalar.indexCast v260
  let c16_246 : Index := 16#32
  ![v294.toNat, v295.toNat, 16]
def k0_off59 (k0_t1 : Fin k0_t1_loop.trips) (k0_t3 : Fin k0_t3_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let v300 : Index := Scalar.indexCast v227
  let c2_i32_247 : BitVec 32 := 2#32
  let c0_i32_235 : BitVec 32 := 0#32
  let c0_i32_217 : BitVec 32 := 0#32
  let c1_i32_219 : BitVec 32 := 1#32
  let arg12 : BitVec 32 := Scf.iv c0_i32_217 c1_i32_219 k0_t3
  let c1_i32_234 : BitVec 32 := 1#32
  let v259 : BitVec 32 := Scalar.muli arg12 c1_i32_234
  let v260 : BitVec 32 := Scalar.addi c0_i32_235 v259
  let v299 : BitVec 32 := Scalar.muli c2_i32_247 v260
  let v301 : Index := Scalar.indexCast v299
  let c32 : Index := 32#32
  ![v300.toNat, v301.toNat, 32]
def k0_off60 (k0_t1 : Fin k0_t1_loop.trips) (k0_t3 : Fin k0_t3_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let v306 : Index := Scalar.indexCast v227
  let c2_i32_248 : BitVec 32 := 2#32
  let c0_i32_235 : BitVec 32 := 0#32
  let c0_i32_217 : BitVec 32 := 0#32
  let c1_i32_219 : BitVec 32 := 1#32
  let arg12 : BitVec 32 := Scf.iv c0_i32_217 c1_i32_219 k0_t3
  let c1_i32_234 : BitVec 32 := 1#32
  let v259 : BitVec 32 := Scalar.muli arg12 c1_i32_234
  let v260 : BitVec 32 := Scalar.addi c0_i32_235 v259
  let v304 : BitVec 32 := Scalar.muli c2_i32_248 v260
  let c1_i32_249 : BitVec 32 := 1#32
  let v305 : BitVec 32 := Scalar.addi v304 c1_i32_249
  let v307 : Index := Scalar.indexCast v305
  let c32_250 : Index := 32#32
  ![v306.toNat, v307.toNat, 32]
def k0_off61 (k0_t1 : Fin k0_t1_loop.trips) (k0_t3 : Fin k0_t3_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let v313 : Index := Scalar.indexCast v227
  let c0_i32_235 : BitVec 32 := 0#32
  let c0_i32_217 : BitVec 32 := 0#32
  let c1_i32_219 : BitVec 32 := 1#32
  let arg12 : BitVec 32 := Scf.iv c0_i32_217 c1_i32_219 k0_t3
  let c1_i32_234 : BitVec 32 := 1#32
  let v259 : BitVec 32 := Scalar.muli arg12 c1_i32_234
  let v260 : BitVec 32 := Scalar.addi c0_i32_235 v259
  let v314 : Index := Scalar.indexCast v260
  let c32_252 : Index := 32#32
  ![v313.toNat, v314.toNat, 32]
def k0_off62 (k0_t1 : Fin k0_t1_loop.trips) (k0_t3 : Fin k0_t3_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let v319 : Index := Scalar.indexCast v227
  let c2_i32_253 : BitVec 32 := 2#32
  let c0_i32_235 : BitVec 32 := 0#32
  let c0_i32_217 : BitVec 32 := 0#32
  let c1_i32_219 : BitVec 32 := 1#32
  let arg12 : BitVec 32 := Scf.iv c0_i32_217 c1_i32_219 k0_t3
  let c1_i32_234 : BitVec 32 := 1#32
  let v259 : BitVec 32 := Scalar.muli arg12 c1_i32_234
  let v260 : BitVec 32 := Scalar.addi c0_i32_235 v259
  let v318 : BitVec 32 := Scalar.muli c2_i32_253 v260
  let v320 : Index := Scalar.indexCast v318
  let c48 : Index := 48#32
  ![v319.toNat, v320.toNat, 48]
def k0_off63 (k0_t1 : Fin k0_t1_loop.trips) (k0_t3 : Fin k0_t3_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let v325 : Index := Scalar.indexCast v227
  let c2_i32_254 : BitVec 32 := 2#32
  let c0_i32_235 : BitVec 32 := 0#32
  let c0_i32_217 : BitVec 32 := 0#32
  let c1_i32_219 : BitVec 32 := 1#32
  let arg12 : BitVec 32 := Scf.iv c0_i32_217 c1_i32_219 k0_t3
  let c1_i32_234 : BitVec 32 := 1#32
  let v259 : BitVec 32 := Scalar.muli arg12 c1_i32_234
  let v260 : BitVec 32 := Scalar.addi c0_i32_235 v259
  let v323 : BitVec 32 := Scalar.muli c2_i32_254 v260
  let c1_i32_255 : BitVec 32 := 1#32
  let v324 : BitVec 32 := Scalar.addi v323 c1_i32_255
  let v326 : Index := Scalar.indexCast v324
  let c48_256 : Index := 48#32
  ![v325.toNat, v326.toNat, 48]
def k0_off64 (k0_t1 : Fin k0_t1_loop.trips) (k0_t3 : Fin k0_t3_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let v332 : Index := Scalar.indexCast v227
  let c0_i32_235 : BitVec 32 := 0#32
  let c0_i32_217 : BitVec 32 := 0#32
  let c1_i32_219 : BitVec 32 := 1#32
  let arg12 : BitVec 32 := Scf.iv c0_i32_217 c1_i32_219 k0_t3
  let c1_i32_234 : BitVec 32 := 1#32
  let v259 : BitVec 32 := Scalar.muli arg12 c1_i32_234
  let v260 : BitVec 32 := Scalar.addi c0_i32_235 v259
  let v333 : Index := Scalar.indexCast v260
  let c48_258 : Index := 48#32
  ![v332.toNat, v333.toNat, 48]
def k0_off65 (k0_t1 : Fin k0_t1_loop.trips) (k0_t3 : Fin k0_t3_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let v338 : Index := Scalar.indexCast v227
  let c2_i32_259 : BitVec 32 := 2#32
  let c0_i32_235 : BitVec 32 := 0#32
  let c0_i32_217 : BitVec 32 := 0#32
  let c1_i32_219 : BitVec 32 := 1#32
  let arg12 : BitVec 32 := Scf.iv c0_i32_217 c1_i32_219 k0_t3
  let c1_i32_234 : BitVec 32 := 1#32
  let v259 : BitVec 32 := Scalar.muli arg12 c1_i32_234
  let v260 : BitVec 32 := Scalar.addi c0_i32_235 v259
  let v337 : BitVec 32 := Scalar.muli c2_i32_259 v260
  let v339 : Index := Scalar.indexCast v337
  let c64 : Index := 64#32
  ![v338.toNat, v339.toNat, 64]
def k0_off66 (k0_t1 : Fin k0_t1_loop.trips) (k0_t3 : Fin k0_t3_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let v344 : Index := Scalar.indexCast v227
  let c2_i32_260 : BitVec 32 := 2#32
  let c0_i32_235 : BitVec 32 := 0#32
  let c0_i32_217 : BitVec 32 := 0#32
  let c1_i32_219 : BitVec 32 := 1#32
  let arg12 : BitVec 32 := Scf.iv c0_i32_217 c1_i32_219 k0_t3
  let c1_i32_234 : BitVec 32 := 1#32
  let v259 : BitVec 32 := Scalar.muli arg12 c1_i32_234
  let v260 : BitVec 32 := Scalar.addi c0_i32_235 v259
  let v342 : BitVec 32 := Scalar.muli c2_i32_260 v260
  let c1_i32_261 : BitVec 32 := 1#32
  let v343 : BitVec 32 := Scalar.addi v342 c1_i32_261
  let v345 : Index := Scalar.indexCast v343
  let c64_262 : Index := 64#32
  ![v344.toNat, v345.toNat, 64]
def k0_off67 (k0_t1 : Fin k0_t1_loop.trips) (k0_t3 : Fin k0_t3_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let v351 : Index := Scalar.indexCast v227
  let c0_i32_235 : BitVec 32 := 0#32
  let c0_i32_217 : BitVec 32 := 0#32
  let c1_i32_219 : BitVec 32 := 1#32
  let arg12 : BitVec 32 := Scf.iv c0_i32_217 c1_i32_219 k0_t3
  let c1_i32_234 : BitVec 32 := 1#32
  let v259 : BitVec 32 := Scalar.muli arg12 c1_i32_234
  let v260 : BitVec 32 := Scalar.addi c0_i32_235 v259
  let v352 : Index := Scalar.indexCast v260
  let c64_264 : Index := 64#32
  ![v351.toNat, v352.toNat, 64]
def k0_off68 (k0_t1 : Fin k0_t1_loop.trips) (k0_t3 : Fin k0_t3_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let v357 : Index := Scalar.indexCast v227
  let c2_i32_265 : BitVec 32 := 2#32
  let c0_i32_235 : BitVec 32 := 0#32
  let c0_i32_217 : BitVec 32 := 0#32
  let c1_i32_219 : BitVec 32 := 1#32
  let arg12 : BitVec 32 := Scf.iv c0_i32_217 c1_i32_219 k0_t3
  let c1_i32_234 : BitVec 32 := 1#32
  let v259 : BitVec 32 := Scalar.muli arg12 c1_i32_234
  let v260 : BitVec 32 := Scalar.addi c0_i32_235 v259
  let v356 : BitVec 32 := Scalar.muli c2_i32_265 v260
  let v358 : Index := Scalar.indexCast v356
  let c80 : Index := 80#32
  ![v357.toNat, v358.toNat, 80]
def k0_off69 (k0_t1 : Fin k0_t1_loop.trips) (k0_t3 : Fin k0_t3_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let v363 : Index := Scalar.indexCast v227
  let c2_i32_266 : BitVec 32 := 2#32
  let c0_i32_235 : BitVec 32 := 0#32
  let c0_i32_217 : BitVec 32 := 0#32
  let c1_i32_219 : BitVec 32 := 1#32
  let arg12 : BitVec 32 := Scf.iv c0_i32_217 c1_i32_219 k0_t3
  let c1_i32_234 : BitVec 32 := 1#32
  let v259 : BitVec 32 := Scalar.muli arg12 c1_i32_234
  let v260 : BitVec 32 := Scalar.addi c0_i32_235 v259
  let v361 : BitVec 32 := Scalar.muli c2_i32_266 v260
  let c1_i32_267 : BitVec 32 := 1#32
  let v362 : BitVec 32 := Scalar.addi v361 c1_i32_267
  let v364 : Index := Scalar.indexCast v362
  let c80_268 : Index := 80#32
  ![v363.toNat, v364.toNat, 80]
def k0_off70 (k0_t1 : Fin k0_t1_loop.trips) (k0_t3 : Fin k0_t3_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let v370 : Index := Scalar.indexCast v227
  let c0_i32_235 : BitVec 32 := 0#32
  let c0_i32_217 : BitVec 32 := 0#32
  let c1_i32_219 : BitVec 32 := 1#32
  let arg12 : BitVec 32 := Scf.iv c0_i32_217 c1_i32_219 k0_t3
  let c1_i32_234 : BitVec 32 := 1#32
  let v259 : BitVec 32 := Scalar.muli arg12 c1_i32_234
  let v260 : BitVec 32 := Scalar.addi c0_i32_235 v259
  let v371 : Index := Scalar.indexCast v260
  let c80_270 : Index := 80#32
  ![v370.toNat, v371.toNat, 80]
def k0_off71 (k0_t1 : Fin k0_t1_loop.trips) (k0_t3 : Fin k0_t3_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let v376 : Index := Scalar.indexCast v227
  let c2_i32_271 : BitVec 32 := 2#32
  let c0_i32_235 : BitVec 32 := 0#32
  let c0_i32_217 : BitVec 32 := 0#32
  let c1_i32_219 : BitVec 32 := 1#32
  let arg12 : BitVec 32 := Scf.iv c0_i32_217 c1_i32_219 k0_t3
  let c1_i32_234 : BitVec 32 := 1#32
  let v259 : BitVec 32 := Scalar.muli arg12 c1_i32_234
  let v260 : BitVec 32 := Scalar.addi c0_i32_235 v259
  let v375 : BitVec 32 := Scalar.muli c2_i32_271 v260
  let v377 : Index := Scalar.indexCast v375
  let c96 : Index := 96#32
  ![v376.toNat, v377.toNat, 96]
def k0_off72 (k0_t1 : Fin k0_t1_loop.trips) (k0_t3 : Fin k0_t3_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let v382 : Index := Scalar.indexCast v227
  let c2_i32_272 : BitVec 32 := 2#32
  let c0_i32_235 : BitVec 32 := 0#32
  let c0_i32_217 : BitVec 32 := 0#32
  let c1_i32_219 : BitVec 32 := 1#32
  let arg12 : BitVec 32 := Scf.iv c0_i32_217 c1_i32_219 k0_t3
  let c1_i32_234 : BitVec 32 := 1#32
  let v259 : BitVec 32 := Scalar.muli arg12 c1_i32_234
  let v260 : BitVec 32 := Scalar.addi c0_i32_235 v259
  let v380 : BitVec 32 := Scalar.muli c2_i32_272 v260
  let c1_i32_273 : BitVec 32 := 1#32
  let v381 : BitVec 32 := Scalar.addi v380 c1_i32_273
  let v383 : Index := Scalar.indexCast v381
  let c96_274 : Index := 96#32
  ![v382.toNat, v383.toNat, 96]
def k0_off73 (k0_t1 : Fin k0_t1_loop.trips) (k0_t3 : Fin k0_t3_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let v389 : Index := Scalar.indexCast v227
  let c0_i32_235 : BitVec 32 := 0#32
  let c0_i32_217 : BitVec 32 := 0#32
  let c1_i32_219 : BitVec 32 := 1#32
  let arg12 : BitVec 32 := Scf.iv c0_i32_217 c1_i32_219 k0_t3
  let c1_i32_234 : BitVec 32 := 1#32
  let v259 : BitVec 32 := Scalar.muli arg12 c1_i32_234
  let v260 : BitVec 32 := Scalar.addi c0_i32_235 v259
  let v390 : Index := Scalar.indexCast v260
  let c96_276 : Index := 96#32
  ![v389.toNat, v390.toNat, 96]
def k0_off74 (k0_t1 : Fin k0_t1_loop.trips) (k0_t3 : Fin k0_t3_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let v395 : Index := Scalar.indexCast v227
  let c2_i32_277 : BitVec 32 := 2#32
  let c0_i32_235 : BitVec 32 := 0#32
  let c0_i32_217 : BitVec 32 := 0#32
  let c1_i32_219 : BitVec 32 := 1#32
  let arg12 : BitVec 32 := Scf.iv c0_i32_217 c1_i32_219 k0_t3
  let c1_i32_234 : BitVec 32 := 1#32
  let v259 : BitVec 32 := Scalar.muli arg12 c1_i32_234
  let v260 : BitVec 32 := Scalar.addi c0_i32_235 v259
  let v394 : BitVec 32 := Scalar.muli c2_i32_277 v260
  let v396 : Index := Scalar.indexCast v394
  let c112 : Index := 112#32
  ![v395.toNat, v396.toNat, 112]
def k0_off75 (k0_t1 : Fin k0_t1_loop.trips) (k0_t3 : Fin k0_t3_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let v401 : Index := Scalar.indexCast v227
  let c2_i32_278 : BitVec 32 := 2#32
  let c0_i32_235 : BitVec 32 := 0#32
  let c0_i32_217 : BitVec 32 := 0#32
  let c1_i32_219 : BitVec 32 := 1#32
  let arg12 : BitVec 32 := Scf.iv c0_i32_217 c1_i32_219 k0_t3
  let c1_i32_234 : BitVec 32 := 1#32
  let v259 : BitVec 32 := Scalar.muli arg12 c1_i32_234
  let v260 : BitVec 32 := Scalar.addi c0_i32_235 v259
  let v399 : BitVec 32 := Scalar.muli c2_i32_278 v260
  let c1_i32_279 : BitVec 32 := 1#32
  let v400 : BitVec 32 := Scalar.addi v399 c1_i32_279
  let v402 : Index := Scalar.indexCast v400
  let c112_280 : Index := 112#32
  ![v401.toNat, v402.toNat, 112]
def k0_off76 (k0_t1 : Fin k0_t1_loop.trips) (k0_t3 : Fin k0_t3_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let v408 : Index := Scalar.indexCast v227
  let c0_i32_235 : BitVec 32 := 0#32
  let c0_i32_217 : BitVec 32 := 0#32
  let c1_i32_219 : BitVec 32 := 1#32
  let arg12 : BitVec 32 := Scf.iv c0_i32_217 c1_i32_219 k0_t3
  let c1_i32_234 : BitVec 32 := 1#32
  let v259 : BitVec 32 := Scalar.muli arg12 c1_i32_234
  let v260 : BitVec 32 := Scalar.addi c0_i32_235 v259
  let v409 : Index := Scalar.indexCast v260
  let c112_282 : Index := 112#32
  ![v408.toNat, v409.toNat, 112]
def k0_cond12 (k0_t1 : Fin k0_t1_loop.trips) : BitVec 1 :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c4_i32_221 : BitVec 32 := 4#32
  let v241 : BitVec 32 := Scalar.addi v226 c4_i32_221
  let c250_i32_222 : BitVec 32 := 250#32
  let v242 : BitVec 1 := Scalar.cmpi .slt v241 c250_i32_222
  let v243 : BitVec 32 := Scalar.extui v242
  let c0_i32_223 : BitVec 32 := 0#32
  let v244 : BitVec 1 := Scalar.cmpi .ne v243 c0_i32_223
  v244

def k0_off77 (k0_t1 : Fin k0_t1_loop.trips) : Fin 3 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  let c0_i32_235 : BitVec 32 := 0#32
  let c0_i32_236 : BitVec 32 := 0#32
  ![v227.toNat, 0, 0]
def k0_off78 (k0_t1 : Fin k0_t1_loop.trips) : Fin 2 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c4_i32_234 : BitVec 32 := 4#32
  let v259 : BitVec 32 := Scalar.addi v226 c4_i32_234
  let c0_i32_237 : BitVec 32 := 0#32
  ![v259.toNat, 0]
def k0_off79 (k0_t1 : Fin k0_t1_loop.trips) : Fin 1 → Nat :=
  let c0_i32_179 : BitVec 32 := 0#32
  let c0_i32_78 : BitVec 32 := 0#32
  let c1_i32_80 : BitVec 32 := 1#32
  let arg11 : BitVec 32 := Scf.iv c0_i32_78 c1_i32_80 k0_t1
  let c2_i32_178 : BitVec 32 := 2#32
  let v191 : BitVec 32 := Scalar.muli arg11 c2_i32_178
  let v192 : BitVec 32 := Scalar.addi c0_i32_179 v191
  let c1_i32_205 : BitVec 32 := 1#32
  let v226 : BitVec 32 := Scalar.addi v192 c1_i32_205
  let c3_i32_206 : BitVec 32 := 3#32
  let v227 : BitVec 32 := Scalar.andi v226 c3_i32_206
  ![v227.toNat]
def k0_cond13 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_122 : BitVec 32 := 0#32
  let v127 : BitVec 32 := Scalar.addi v1 c0_i32_122
  let c125_i32_127 : BitVec 32 := 125#32
  let v132 : BitVec 1 := Scalar.cmpi .slt v127 c125_i32_127
  let v133 : BitVec 32 := Scalar.extui v132
  let c0_i32_128 : BitVec 32 := 0#32
  let v134 : BitVec 1 := Scalar.cmpi .ne v133 c0_i32_128
  v134

def k0_off80 (i : grid0.Coords) : Fin 2 → Nat :=
  let c0_i32_126 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_122 : BitVec 32 := 0#32
  let v127 : BitVec 32 := Scalar.addi v1 c0_i32_122
  let c80_i32_125 : BitVec 32 := 80#32
  let v130 : BitVec 32 := Scalar.muli v127 c80_i32_125
  let v131 : BitVec 32 := Scalar.addi c0_i32_126 v130
  let c0_i32_178 : BitVec 32 := 0#32
  ![v131.toNat, 0]
def k0_off81 (i : grid0.Coords) : Fin 2 → Nat :=
  let c0_i32_124 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_122 : BitVec 32 := 0#32
  let v127 : BitVec 32 := Scalar.addi v1 c0_i32_122
  let c80_i32_123 : BitVec 32 := 80#32
  let v128 : BitVec 32 := Scalar.muli v127 c80_i32_123
  let v129 : BitVec 32 := Scalar.addi c0_i32_124 v128
  let c0_i32_179 : BitVec 32 := 0#32
  ![v129.toNat, 0]
def k0_cond14 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_129 : BitVec 32 := 32#32
  let v135 : BitVec 32 := Scalar.addi v1 c32_i32_129
  let c125_i32_134 : BitVec 32 := 125#32
  let v140 : BitVec 1 := Scalar.cmpi .slt v135 c125_i32_134
  let v141 : BitVec 32 := Scalar.extui v140
  let c0_i32_135 : BitVec 32 := 0#32
  let v142 : BitVec 1 := Scalar.cmpi .ne v141 c0_i32_135
  v142

def k0_off82 (i : grid0.Coords) : Fin 2 → Nat :=
  let c0_i32_133 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_129 : BitVec 32 := 32#32
  let v135 : BitVec 32 := Scalar.addi v1 c32_i32_129
  let c80_i32_132 : BitVec 32 := 80#32
  let v138 : BitVec 32 := Scalar.muli v135 c80_i32_132
  let v139 : BitVec 32 := Scalar.addi c0_i32_133 v138
  let c0_i32_178 : BitVec 32 := 0#32
  ![v139.toNat, 0]
def k0_off83 (i : grid0.Coords) : Fin 2 → Nat :=
  let c0_i32_131 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_129 : BitVec 32 := 32#32
  let v135 : BitVec 32 := Scalar.addi v1 c32_i32_129
  let c80_i32_130 : BitVec 32 := 80#32
  let v136 : BitVec 32 := Scalar.muli v135 c80_i32_130
  let v137 : BitVec 32 := Scalar.addi c0_i32_131 v136
  let c0_i32_179 : BitVec 32 := 0#32
  ![v137.toNat, 0]
def k0_cond15 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_136 : BitVec 32 := 64#32
  let v143 : BitVec 32 := Scalar.addi v1 c64_i32_136
  let c125_i32_141 : BitVec 32 := 125#32
  let v148 : BitVec 1 := Scalar.cmpi .slt v143 c125_i32_141
  let v149 : BitVec 32 := Scalar.extui v148
  let c0_i32_142 : BitVec 32 := 0#32
  let v150 : BitVec 1 := Scalar.cmpi .ne v149 c0_i32_142
  v150

def k0_off84 (i : grid0.Coords) : Fin 2 → Nat :=
  let c0_i32_140 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_136 : BitVec 32 := 64#32
  let v143 : BitVec 32 := Scalar.addi v1 c64_i32_136
  let c80_i32_139 : BitVec 32 := 80#32
  let v146 : BitVec 32 := Scalar.muli v143 c80_i32_139
  let v147 : BitVec 32 := Scalar.addi c0_i32_140 v146
  let c0_i32_178 : BitVec 32 := 0#32
  ![v147.toNat, 0]
def k0_off85 (i : grid0.Coords) : Fin 2 → Nat :=
  let c0_i32_138 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_136 : BitVec 32 := 64#32
  let v143 : BitVec 32 := Scalar.addi v1 c64_i32_136
  let c80_i32_137 : BitVec 32 := 80#32
  let v144 : BitVec 32 := Scalar.muli v143 c80_i32_137
  let v145 : BitVec 32 := Scalar.addi c0_i32_138 v144
  let c0_i32_179 : BitVec 32 := 0#32
  ![v145.toNat, 0]
def k0_cond16 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32_143 : BitVec 32 := 96#32
  let v151 : BitVec 32 := Scalar.addi v1 c96_i32_143
  let c125_i32_148 : BitVec 32 := 125#32
  let v156 : BitVec 1 := Scalar.cmpi .slt v151 c125_i32_148
  let v157 : BitVec 32 := Scalar.extui v156
  let c0_i32_149 : BitVec 32 := 0#32
  let v158 : BitVec 1 := Scalar.cmpi .ne v157 c0_i32_149
  v158

def k0_off86 (i : grid0.Coords) : Fin 2 → Nat :=
  let c0_i32_147 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32_143 : BitVec 32 := 96#32
  let v151 : BitVec 32 := Scalar.addi v1 c96_i32_143
  let c80_i32_146 : BitVec 32 := 80#32
  let v154 : BitVec 32 := Scalar.muli v151 c80_i32_146
  let v155 : BitVec 32 := Scalar.addi c0_i32_147 v154
  let c0_i32_178 : BitVec 32 := 0#32
  ![v155.toNat, 0]
def k0_off87 (i : grid0.Coords) : Fin 2 → Nat :=
  let c0_i32_145 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32_143 : BitVec 32 := 96#32
  let v151 : BitVec 32 := Scalar.addi v1 c96_i32_143
  let c80_i32_144 : BitVec 32 := 80#32
  let v152 : BitVec 32 := Scalar.muli v151 c80_i32_144
  let v153 : BitVec 32 := Scalar.addi c0_i32_145 v152
  let c0_i32_179 : BitVec 32 := 0#32
  ![v153.toNat, 0]
def k0_cond17 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_150 : BitVec 32 := 0#32
  let v159 : BitVec 32 := Scalar.addi v1 c0_i32_150
  let c125_i32_155 : BitVec 32 := 125#32
  let v164 : BitVec 1 := Scalar.cmpi .slt v159 c125_i32_155
  let v165 : BitVec 32 := Scalar.extui v164
  let c0_i32_156 : BitVec 32 := 0#32
  let v166 : BitVec 1 := Scalar.cmpi .ne v165 c0_i32_156
  v166

def k0_off88 (i : grid0.Coords) : Fin 2 → Nat :=
  let c170000_i32_154 : BitVec 32 := 170000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_150 : BitVec 32 := 0#32
  let v159 : BitVec 32 := Scalar.addi v1 c0_i32_150
  let c80_i32_153 : BitVec 32 := 80#32
  let v162 : BitVec 32 := Scalar.muli v159 c80_i32_153
  let v163 : BitVec 32 := Scalar.addi c170000_i32_154 v162
  let c0_i32_178 : BitVec 32 := 0#32
  ![v163.toNat, 0]
def k0_off89 (i : grid0.Coords) : Fin 2 → Nat :=
  let c10000_i32_152 : BitVec 32 := 10000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_150 : BitVec 32 := 0#32
  let v159 : BitVec 32 := Scalar.addi v1 c0_i32_150
  let c80_i32_151 : BitVec 32 := 80#32
  let v160 : BitVec 32 := Scalar.muli v159 c80_i32_151
  let v161 : BitVec 32 := Scalar.addi c10000_i32_152 v160
  let c0_i32_179 : BitVec 32 := 0#32
  ![v161.toNat, 0]
def k0_cond18 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_157 : BitVec 32 := 32#32
  let v167 : BitVec 32 := Scalar.addi v1 c32_i32_157
  let c125_i32_162 : BitVec 32 := 125#32
  let v172 : BitVec 1 := Scalar.cmpi .slt v167 c125_i32_162
  let v173 : BitVec 32 := Scalar.extui v172
  let c0_i32_163 : BitVec 32 := 0#32
  let v174 : BitVec 1 := Scalar.cmpi .ne v173 c0_i32_163
  v174

def k0_off90 (i : grid0.Coords) : Fin 2 → Nat :=
  let c170000_i32_161 : BitVec 32 := 170000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_157 : BitVec 32 := 32#32
  let v167 : BitVec 32 := Scalar.addi v1 c32_i32_157
  let c80_i32_160 : BitVec 32 := 80#32
  let v170 : BitVec 32 := Scalar.muli v167 c80_i32_160
  let v171 : BitVec 32 := Scalar.addi c170000_i32_161 v170
  let c0_i32_178 : BitVec 32 := 0#32
  ![v171.toNat, 0]
def k0_off91 (i : grid0.Coords) : Fin 2 → Nat :=
  let c10000_i32_159 : BitVec 32 := 10000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_157 : BitVec 32 := 32#32
  let v167 : BitVec 32 := Scalar.addi v1 c32_i32_157
  let c80_i32_158 : BitVec 32 := 80#32
  let v168 : BitVec 32 := Scalar.muli v167 c80_i32_158
  let v169 : BitVec 32 := Scalar.addi c10000_i32_159 v168
  let c0_i32_179 : BitVec 32 := 0#32
  ![v169.toNat, 0]
def k0_cond19 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_164 : BitVec 32 := 64#32
  let v175 : BitVec 32 := Scalar.addi v1 c64_i32_164
  let c125_i32_169 : BitVec 32 := 125#32
  let v180 : BitVec 1 := Scalar.cmpi .slt v175 c125_i32_169
  let v181 : BitVec 32 := Scalar.extui v180
  let c0_i32_170 : BitVec 32 := 0#32
  let v182 : BitVec 1 := Scalar.cmpi .ne v181 c0_i32_170
  v182

def k0_off92 (i : grid0.Coords) : Fin 2 → Nat :=
  let c170000_i32_168 : BitVec 32 := 170000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_164 : BitVec 32 := 64#32
  let v175 : BitVec 32 := Scalar.addi v1 c64_i32_164
  let c80_i32_167 : BitVec 32 := 80#32
  let v178 : BitVec 32 := Scalar.muli v175 c80_i32_167
  let v179 : BitVec 32 := Scalar.addi c170000_i32_168 v178
  let c0_i32_178 : BitVec 32 := 0#32
  ![v179.toNat, 0]
def k0_off93 (i : grid0.Coords) : Fin 2 → Nat :=
  let c10000_i32_166 : BitVec 32 := 10000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_164 : BitVec 32 := 64#32
  let v175 : BitVec 32 := Scalar.addi v1 c64_i32_164
  let c80_i32_165 : BitVec 32 := 80#32
  let v176 : BitVec 32 := Scalar.muli v175 c80_i32_165
  let v177 : BitVec 32 := Scalar.addi c10000_i32_166 v176
  let c0_i32_179 : BitVec 32 := 0#32
  ![v177.toNat, 0]
def k0_cond20 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32_171 : BitVec 32 := 96#32
  let v183 : BitVec 32 := Scalar.addi v1 c96_i32_171
  let c125_i32_176 : BitVec 32 := 125#32
  let v188 : BitVec 1 := Scalar.cmpi .slt v183 c125_i32_176
  let v189 : BitVec 32 := Scalar.extui v188
  let c0_i32_177 : BitVec 32 := 0#32
  let v190 : BitVec 1 := Scalar.cmpi .ne v189 c0_i32_177
  v190

def k0_off94 (i : grid0.Coords) : Fin 2 → Nat :=
  let c170000_i32_175 : BitVec 32 := 170000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32_171 : BitVec 32 := 96#32
  let v183 : BitVec 32 := Scalar.addi v1 c96_i32_171
  let c80_i32_174 : BitVec 32 := 80#32
  let v186 : BitVec 32 := Scalar.muli v183 c80_i32_174
  let v187 : BitVec 32 := Scalar.addi c170000_i32_175 v186
  let c0_i32_178 : BitVec 32 := 0#32
  ![v187.toNat, 0]
def k0_off95 (i : grid0.Coords) : Fin 2 → Nat :=
  let c10000_i32_173 : BitVec 32 := 10000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32_171 : BitVec 32 := 96#32
  let v183 : BitVec 32 := Scalar.addi v1 c96_i32_171
  let c80_i32_172 : BitVec 32 := 80#32
  let v184 : BitVec 32 := Scalar.muli v183 c80_i32_172
  let v185 : BitVec 32 := Scalar.addi c10000_i32_173 v184
  let c0_i32_179 : BitVec 32 := 0#32
  ![v185.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x10000x128 : Shape := ⟨3, ![2, 10000, 128]⟩
abbrev S160000x2 : Shape := ⟨2, ![160000, 2]⟩
abbrev S_ : Shape := ⟨0, ![]⟩
abbrev S160000x2x1 : Shape := ⟨3, ![160000, 2, 1]⟩
abbrev S2x160000x2x128 : Shape := ⟨4, ![2, 160000, 2, 128]⟩
abbrev S2x160000x128 : Shape := ⟨3, ![2, 160000, 128]⟩
abbrev S2x170000x128 : Shape := ⟨3, ![2, 170000, 128]⟩

abbrev nBuf : Space → Nat
  | .hbm => 17
  | .vmem => 0
  | .smem => 0
  | _ => 0

abbrev bufTy : (tb : Table) → Fin (tcTables nBuf tb) → BufTy
  | .hbm, ⟨0, _⟩ => ⟨S2x10000x128, .f32⟩
  | .hbm, ⟨1, _⟩ => ⟨S160000x2, .i32⟩
  | .hbm, ⟨2, _⟩ => ⟨S_, .i32⟩
  | .hbm, ⟨3, _⟩ => ⟨S160000x2, .i32⟩
  | .hbm, ⟨4, _⟩ => ⟨S160000x2, .i1⟩
  | .hbm, ⟨5, _⟩ => ⟨S_, .i32⟩
  | .hbm, ⟨6, _⟩ => ⟨S160000x2, .i32⟩
  | .hbm, ⟨7, _⟩ => ⟨S160000x2, .i32⟩
  | .hbm, ⟨8, _⟩ => ⟨S160000x2, .i32⟩
  | .hbm, ⟨9, _⟩ => ⟨S160000x2x1, .i32⟩
  | .hbm, ⟨10, _⟩ => ⟨S2x160000x2x128, .f32⟩
  | .hbm, ⟨11, _⟩ => ⟨S_, .f32⟩
  | .hbm, ⟨12, _⟩ => ⟨S2x160000x128, .f32⟩
  | .hbm, ⟨13, _⟩ => ⟨S_, .f32⟩
  | .hbm, ⟨14, _⟩ => ⟨S2x160000x128, .f32⟩
  | .hbm, ⟨15, _⟩ => ⟨S2x160000x128, .f32⟩
  | .hbm, ⟨16, _⟩ => ⟨S2x170000x128, .f32⟩
  | _, _ => ⟨S2x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proof.Shape.lean ====
/-
  The shape of the edge loop. One trip of the loop handles two chunks, and the text for the two chunks differs only in
  the offsets it computes. Here that text is written once, over a record of offsets, and the program's own loop bodies
  are shown to be it.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Unpool

open Cert.KernelIdeal Cert.KernelIdeal.Gen
open Idealize.ShloMosaic Idealize.SL.Sem

variable {F : FTy → Type} [FloatOps F]

/-- The offsets of one lane group of one output row: the two gathered rows' lanes, and the output lanes. -/
@[ext] structure Lane where
  a : Fin 3 → ℕ
  b : Fin 3 → ℕ
  o : Fin 3 → ℕ
  ha : ∀ x, a x + S1x1x16.size x ≤ S4x80x128.size x
  hb : ∀ x, b x + S1x1x16.size x ≤ S4x80x128.size x
  ho : ∀ x, o x + S1x1x16.size x ≤ S4x40x128.size x

/-- The offsets of one chunk: the slot of the gathered rows and of its semaphore, the earlier store waited for, the
    rows' lane groups, and the next gather started. -/
@[ext] structure Offs where
  gr : Fin 3 → ℕ
  gs : Fin 1 → ℕ
  hgr : ∀ x, gr x + S1x80x128.size x ≤ S4x80x128.size x
  hgs : ∀ x, gs x + S1.size x ≤ S4.size x
  cw : BitVec 1
  wr : Fin 3 → ℕ
  ws : Fin 1 → ℕ
  hwr : cw = 1#1 → ∀ x, wr x + S1x40x128.size x ≤ S4x40x128.size x
  hws : cw = 1#1 → ∀ x, ws x + S1.size x ≤ S4.size x
  lanes : Fin k0_t2_loop.trips → Fin 8 → Lane
  cg : BitVec 1
  nr : Fin 3 → ℕ
  nl : Fin 2 → ℕ
  ns : Fin 1 → ℕ
  hnr : cg = 1#1 → ∀ x, nr x + S1x80x128.size x ≤ S4x80x128.size x
  hnl : cg = 1#1 → ∀ x, nl x + S1x80.size x ≤ S250x80.size x
  hns : cg = 1#1 → ∀ x, ns x + S1.size x ≤ S4.size x

/-- The offsets of one chunk's write-out. -/
@[ext] structure StoreOffs where
  ss : Fin 1 → ℕ
  so : Fin 2 → ℕ
  sr : Fin 3 → ℕ
  hss : ∀ x, ss x + S1.size x ≤ S4.size x
  hso : ∀ x, so x + S40x128.size x ≤ S340000x128.size x
  hsr : ∀ x, sr x + S1x40x128.size x ≤ S4x40x128.size x

abbrev TP (F : FTy → Type) (i : grid0.Coords) (α : Type) : Type 1 :=
  Prog (TpuEff nD τ sig (Elt F) Λ₀ (.scVector ((i 0).castLE hcore0) ((i 1).castLE hsub0))) α

section Text

variable (i : grid0.Coords) (arg2 : Memref sig .scVector .hbm S20000x128 .f32) (harg2 : arg2.IsWhole)
  (arg3 : Memref sig .scVector .hbm S32x250x80 .i32) (harg3 : arg3.IsWhole)
  (arg4 : Memref sig .scVector .hbm S340000x128 .f32) (harg4 : arg4.IsWhole)
  (arg5 : Memref sig .scVector .vmem S250x80 .i32) (harg5 : arg5.IsWhole)
  (arg6 : Memref sig .scVector .vmem S4x80x128 .f32) (harg6 : arg6.IsWhole)
  (arg7 : Memref sig .scVector .vmem S4x40x128 .f32) (harg7 : arg7.IsWhole)
  (arg8 : DmaSems sig S4) (arg9 : DmaSems sig S4) (arg10 : DmaSems sig S_) (v191_r0 : DmaSems sig S_)

/-- One lane group: load the two, load and drop the old output lanes, store the half sum. -/
def laneProg (l : Lane) : TP F i PUnit := do
  let x : Vec F S1x1x16 .f32 ← Prog.lift (.load arg6 (Rect.unit (s := S4x80x128) l.a S1x1x16.size l.ha).toLoadRect (View.loadsAt_vmem h_S1x1x16))
  let y : Vec F S1x1x16 .f32 ← Prog.lift (.load arg6 (Rect.unit (s := S4x80x128) l.b S1x1x16.size l.hb).toLoadRect (View.loadsAt_vmem h_S1x1x16))
  let z : Vec F S1x1x16 .f32 ← Prog.lift (.load arg7 (Rect.unit (s := S4x40x128) l.o S1x1x16.size l.ho).toLoadRect (View.loadsAt_vmem h_S1x1x16))
  Prog.lift (.store arg7 (Rect.unit (s := S4x40x128) l.o S1x1x16.size l.ho) (k0_pay1 x y) Finset.univ (View.stores_vmem_bits_univ h_S1x1x16 rfl) (.inl rfl))

/-- One output row: its eight lane groups. -/
def rowProg (l : Fin 8 → Lane) : TP F i Unit := do
  laneProg i arg6 arg7 (l 0)
  laneProg i arg6 arg7 (l 1)
  laneProg i arg6 arg7 (l 2)
  laneProg i arg6 arg7 (l 3)
  laneProg i arg6 arg7 (l 4)
  laneProg i arg6 arg7 (l 5)
  laneProg i arg6 arg7 (l 6)
  laneProg i arg6 arg7 (l 7)
  pure ⟨⟩

/-- One chunk up to its write-out: wait for the gathered rows, wait for the slot's earlier write-out if there is one,
    average the rows, start the gather four chunks on if there is one. -/
def halfProg {α : Type} (H : Offs) (r : α) : TP F i α := do
  let v198 : Memref sig .scVector .vmem S80x128 .f32 := (arg6.slice (Rect.unit (s := S4x80x128) H.gr S1x80x128.size H.hgr) (fun _ => rfl)).squeeze S80x128 squeezes_S1x80x128_S80x128
  let v201 : Memref sig .scVector .hbm S20000x128 .f32 := arg2.slice (Rect.unit (s := S20000x128) ![0, 0] S20000x128.size inb_S20000x128_S20000x128_0_0) (fun _ => rfl)
  let v203 : DmaSems sig S_ := (arg8.slice (Rect.unit (s := S4) H.gs S1.size H.hgs)).squeeze S_ squeezes_S1_S_
  SparseCore.waitIndirectGather v203.sem v201 v198 (View.wordExact_bits rfl) ((View.wordExact_bits rfl).reshape _ _)
  if h : H.cw = 1#1 then do
    let v263 : DmaSems sig S_ := (arg9.slice (Rect.unit (s := S4) H.ws S1.size (H.hws h))).squeeze S_ squeezes_S1_S_
    let v264 : Memref sig .scVector .hbm S40x128 .f32 := arg4.slice (Rect.unit (s := S340000x128) ![0, 0] S40x128.size inb_S340000x128_S40x128_0_0) (fun _ => rfl)
    let v266 : Memref sig .scVector .vmem S40x128 .f32 := (arg7.slice (Rect.unit (s := S4x40x128) H.wr S1x40x128.size (H.hwr h)) (fun _ => rfl)).squeeze S40x128 squeezes_S1x40x128_S40x128
    Prog.lift (.waitDma2 v263.sem v266 v264 ((View.wordExact_bits rfl).reshape _ _) (View.wordExact_bits rfl))
    pure ⟨⟩
  else do
    pure ⟨⟩
  Scf.Loop.for k0_t2_loop k0_t2_ok ⟨⟩ (fun t _ => rowProg i arg6 arg7 (H.lanes t))
  if h : H.cg = 1#1 then do
    let v261 : Memref sig .scVector .vmem S80x128 .f32 := (arg6.slice (Rect.unit (s := S4x80x128) H.nr S1x80x128.size (H.hnr h)) (fun _ => rfl)).squeeze S80x128 squeezes_S1x80x128_S80x128
    let v263 : Memref sig .scVector .vmem S80 .i32 := (arg5.slice (Rect.unit (s := S250x80) H.nl S1x80.size (H.hnl h)) (fun _ => rfl)).squeeze S80 squeezes_S1x80_S80
    let v264 : Memref sig .scVector .hbm S20000x128 .f32 := arg2.slice (Rect.unit (s := S20000x128) ![0, 0] S20000x128.size inb_S20000x128_S20000x128_0_0) (fun _ => rfl)
    let v266 : DmaSems sig S_ := (arg8.slice (Rect.unit (s := S4) H.ns S1.size (H.hns h))).squeeze S_ squeezes_S1_S_
    SparseCore.enqueueIndirectGather rfl v264 v261 gathers_S20000x128_S80x128 v263 rfl v266.sem (View.wordExact_bits rfl) rfl (Or.inl rfl)
    pure ⟨⟩
  else do
    pure ⟨⟩
  pure r

/-- One chunk's write-out. -/
def storeProg (H : StoreOffs) : TP F i PUnit :=
  Prog.lift (.enqueueDma ((arg7.slice (Rect.unit (s := S4x40x128) H.sr S1x40x128.size H.hsr) (fun _ => rfl)).squeeze S40x128 squeezes_S1x40x128_S40x128)
    (.here (arg4.slice (Rect.unit (s := S340000x128) H.so S40x128.size H.hso) (fun _ => rfl)))
    (.dma ((arg9.slice (Rect.unit (s := S4) H.ss S1.size H.hss)).squeeze S_ squeezes_S1_S_).sem)
    ((View.wordExact_bits rfl).reshape _ _) (View.wordExact_bits rfl) ⟨Or.inl rfl, trivial⟩)

/-- The lane groups of the trip's first chunk. -/
def lanes0 (k : Fin k0_t1_loop.trips) (t : Fin k0_t2_loop.trips) : Fin 8 → Lane := ![
  ⟨k0_off22 k t, k0_off23 k t, k0_off24 k t, k0_off22_inb k t, k0_off23_inb k t, k0_off24_inb k t⟩,
  ⟨k0_off25 k t, k0_off26 k t, k0_off27 k t, k0_off25_inb k t, k0_off26_inb k t, k0_off27_inb k t⟩,
  ⟨k0_off28 k t, k0_off29 k t, k0_off30 k t, k0_off28_inb k t, k0_off29_inb k t, k0_off30_inb k t⟩,
  ⟨k0_off31 k t, k0_off32 k t, k0_off33 k t, k0_off31_inb k t, k0_off32_inb k t, k0_off33_inb k t⟩,
  ⟨k0_off34 k t, k0_off35 k t, k0_off36 k t, k0_off34_inb k t, k0_off35_inb k t, k0_off36_inb k t⟩,
  ⟨k0_off37 k t, k0_off38 k t, k0_off39 k t, k0_off37_inb k t, k0_off38_inb k t, k0_off39_inb k t⟩,
  ⟨k0_off40 k t, k0_off41 k t, k0_off42 k t, k0_off40_inb k t, k0_off41_inb k t, k0_off42_inb k t⟩,
  ⟨k0_off43 k t, k0_off44 k t, k0_off45 k t, k0_off43_inb k t, k0_off44_inb k t, k0_off45_inb k t⟩]

/-- The lane groups of the trip's second chunk. -/
def lanes1 (k : Fin k0_t1_loop.trips) (t : Fin k0_t3_loop.trips) : Fin 8 → Lane := ![
  ⟨k0_off53 k t, k0_off54 k t, k0_off55 k t, k0_off53_inb k t, k0_off54_inb k t, k0_off55_inb k t⟩,
  ⟨k0_off56 k t, k0_off57 k t, k0_off58 k t, k0_off56_inb k t, k0_off57_inb k t, k0_off58_inb k t⟩,
  ⟨k0_off59 k t, k0_off60 k t, k0_off61 k t, k0_off59_inb k t, k0_off60_inb k t, k0_off61_inb k t⟩,
  ⟨k0_off62 k t, k0_off63 k t, k0_off64 k t, k0_off62_inb k t, k0_off63_inb k t, k0_off64_inb k t⟩,
  ⟨k0_off65 k t, k0_off66 k t, k0_off67 k t, k0_off65_inb k t, k0_off66_inb k t, k0_off67_inb k t⟩,
  ⟨k0_off68 k t, k0_off69 k t, k0_off70 k t, k0_off68_inb k t, k0_off69_inb k t, k0_off70_inb k t⟩,
  ⟨k0_off71 k t, k0_off72 k t, k0_off73 k t, k0_off71_inb k t, k0_off72_inb k t, k0_off73_inb k t⟩,
  ⟨k0_off74 k t, k0_off75 k t, k0_off76 k t, k0_off74_inb k t, k0_off75_inb k t, k0_off76_inb k t⟩]

/-- The trip's first chunk's offsets. -/
def offs0 (k : Fin k0_t1_loop.trips) : Offs where
  gr := k0_off18 k 0#32
  gs := k0_off19 k 0#32
  hgr := k0_off18_inb k 0
  hgs := k0_off19_inb k 0
  cw := k0_cond9 k
  wr := k0_off20 k
  ws := k0_off21 k
  hwr := k0_off20_inb k
  hws := k0_off21_inb k
  lanes := lanes0 k
  cg := k0_cond10 k
  nr := k0_off46 k
  nl := k0_off47 k
  ns := k0_off48 k
  hnr := k0_off46_inb k
  hnl := k0_off47_inb k
  hns := k0_off48_inb k

/-- The trip's second chunk's offsets. -/
def offs1 (k : Fin k0_t1_loop.trips) : Offs where
  gr := k0_off18 k 1#32
  gs := k0_off19 k 1#32
  hgr := k0_off18_inb k 1
  hgs := k0_off19_inb k 1
  cw := k0_cond11 k
  wr := k0_off51 k
  ws := k0_off52 k
  hwr := k0_off51_inb k
  hws := k0_off52_inb k
  lanes := lanes1 k
  cg := k0_cond12 k
  nr := k0_off77 k
  nl := k0_off78 k
  ns := k0_off79 k
  hnr := k0_off77_inb k
  hnl := k0_off78_inb k
  hns := k0_off79_inb k

/-- The trip's first write-out's offsets. -/
def sOffs0 (k : Fin k0_t1_loop.trips) : StoreOffs :=
  ⟨k0_off19 k 0#32, k0_off50 i k 0#32, k0_off49 k 0#32, k0_off19_inb k 0, k0_off50_inb i k 0, k0_off49_inb k 0⟩

/-- The trip's second write-out's offsets. -/
def sOffs1 (k : Fin k0_t1_loop.trips) : StoreOffs :=
  ⟨k0_off19 k 1#32, k0_off50 i k 1#32, k0_off49 k 1#32, k0_off19_inb k 1, k0_off50_inb i k 1, k0_off49_inb k 1⟩

set_option maxRecDepth 65536 in
theorem t2_body_eq (v1 a b : BitVec 32) (k : Fin k0_t1_loop.trips) (v : BitVec 32) :
    k0_t2_body (F := F) i arg2 harg2 arg3 harg3 arg4 harg4 arg5 harg5 arg6 harg6 arg7 harg7 arg8 arg9 arg10 v191_r0 v1 a b k v
      = fun t _ => rowProg i arg6 arg7 (lanes0 k t) := rfl

set_option maxRecDepth 65536 in
theorem t3_body_eq (v1 : BitVec 32) (k : Fin k0_t1_loop.trips) (a b : BitVec 32) :
    k0_t3_body (F := F) i arg2 harg2 arg3 harg3 arg4 harg4 arg5 harg5 arg6 harg6 arg7 harg7 arg8 arg9 arg10 v191_r0 v1 k a b
      = fun t _ => rowProg i arg6 arg7 (lanes1 k t) := rfl

/-- What the trip's first part hands on, which nothing reads. -/
def ret7 (a b : BitVec 32) (k : Fin k0_t1_loop.trips) : BitVec 32 := Scalar.addi 0#32 (Scalar.muli (Scf.iv a b k) 2#32)
/-- What the trip's second part hands on, which nothing reads. -/
def ret8 (v1 v : BitVec 32) : Σ' (v229 : BitVec 32) (v246 : BitVec 32), BitVec 32 :=
  ⟨Scalar.shrui (Scalar.addi v 1#32) 1#32, Scalar.addi (Scalar.muli (Scalar.andi (Scalar.addi v 1#32) 1#32) 170000#32) 10000#32, Scalar.muli v1 5000#32⟩

set_option maxRecDepth 65536 in
theorem part7_eq (v1 a b : BitVec 32) (k : Fin k0_t1_loop.trips) :
    k0_part7 (F := F) i arg2 harg2 arg3 harg3 arg4 harg4 arg5 harg5 arg6 harg6 arg7 harg7 arg8 arg9 arg10 v191_r0 v1 a b k
      = halfProg i arg2 arg4 arg5 arg6 arg7 arg8 arg9 (offs0 k) (ret7 a b k) := by
  rw [k0_part7_eq_skeleton]; unfold k0_part7_skel halfProg
  simp only [t2_body_eq]
  rfl

set_option maxRecDepth 65536 in
theorem part8_eq (v1 : BitVec 32) (k : Fin k0_t1_loop.trips) (v : BitVec 32) :
    k0_part8 (F := F) i arg2 harg2 arg3 harg3 arg4 harg4 arg5 harg5 arg6 harg6 arg7 harg7 arg8 arg9 arg10 v191_r0 v1 k v
      = (storeProg i arg4 arg7 arg9 (sOffs0 i k) >>= fun _ => halfProg i arg2 arg4 arg5 arg6 arg7 arg8 arg9 (offs1 k) (ret8 v1 v)) := by
  rw [k0_part8_eq_skeleton]; unfold k0_part8_skel halfProg storeProg
  simp only [t3_body_eq]
  rfl

/-- A trip of the loop is the two chunks in turn, each followed by its write-out. -/
theorem t1_body_eq (v1 : BitVec 32) (k : Fin k0_t1_loop.trips) (u : Unit) :
    k0_t1_body (F := F) i arg2 harg2 arg3 harg3 arg4 harg4 arg5 harg5 arg6 harg6 arg7 harg7 arg8 arg9 arg10 v191_r0 v1 k u
      = (halfProg i arg2 arg4 arg5 arg6 arg7 arg8 arg9 (offs0 k) (ret7 0#32 1#32 k) >>= fun w =>
          (storeProg i arg4 arg7 arg9 (sOffs0 i k) >>= fun _ => halfProg i arg2 arg4 arg5 arg6 arg7 arg8 arg9 (offs1 k) (ret8 v1 w)) >>= fun _ =>
          storeProg i arg4 arg7 arg9 (sOffs1 i k) >>= fun _ => pure ⟨⟩) := by
  unfold k0_t1_body
  simp only [part7_eq, part8_eq]
  rfl

end Text

end Cert.Proof.Unpool

end
-- ==== Proof.Offsets.lean ====
/-
  The offsets of the edge loop in closed form. Trip `k` handles chunks `2k` and `2k + 1`; chunk `c` uses slot `c % 4`,
  and every offset the program computes for it is a plain function of `c`.
-/
module

public import proofs.«01_k».proof.Proof.Shape

@[expose] public section

noncomputable section

namespace Cert.Proof.Unpool

open Cert.KernelIdeal Cert.KernelIdeal.Gen
open Idealize.ShloMosaic Idealize.SL.Sem

theorem trips1 : k0_t1_loop.trips = 125 := by decide +kernel
theorem trips2 : k0_t2_loop.trips = 40 := by decide +kernel

/-- The tile's number among the thirty-two. -/
abbrev wid (i : grid0.Coords) : ℕ := 2 * (i 1).val + (i 0).val

theorem wid_lt (i : grid0.Coords) : wid i < 32 := by
  have h0 : (i 0).val < 2 := (i 0).isLt
  have h1 : (i 1).val < 16 := (i 1).isLt
  unfold wid; omega

/-- A lane group: slot `s`, output row `t`, lanes from `16 g`. -/
def laneAt (s t g : ℕ) (hs : s < 4) (ht : t < 40) (hg : g < 8) : Lane where
  a := ![s, 2 * t, 16 * g]
  b := ![s, 2 * t + 1, 16 * g]
  o := ![s, t, 16 * g]
  ha := by intro x; fin_cases x <;> (simp [S1x1x16, S4x80x128]; try omega)
  hb := by intro x; fin_cases x <;> (simp [S1x1x16, S4x80x128]; try omega)
  ho := by intro x; fin_cases x <;> (simp [S1x1x16, S4x40x128]; try omega)

theorem slot_lt (c : ℕ) : c % 4 < 4 := Nat.mod_lt _ (by omega)

/-- Chunk `c`'s offsets. -/
def offsAt (c : ℕ) : Offs where
  gr := ![c % 4, 0, 0]
  gs := ![c % 4]
  hgr := by intro x; have := slot_lt c; fin_cases x <;> (simp [S1x80x128, S4x80x128]; try omega)
  hgs := by intro x; have := slot_lt c; fin_cases x; simp [S1, S4]; omega
  cw := if 4 ≤ c then 1#1 else 0#1
  wr := ![c % 4, 0, 0]
  ws := ![c % 4]
  hwr := by intro _ x; have := slot_lt c; fin_cases x <;> (simp [S1x40x128, S4x40x128]; try omega)
  hws := by intro _ x; have := slot_lt c; fin_cases x; simp [S1, S4]; omega
  lanes t g := laneAt (c % 4) t.val g.val (slot_lt c) (trips2 ▸ t.isLt) g.isLt
  cg := if c + 4 < 250 then 1#1 else 0#1
  nr := ![c % 4, 0, 0]
  nl := ![c + 4, 0]
  ns := ![c % 4]
  hnr := by intro _ x; have := slot_lt c; fin_cases x <;> (simp [S1x80x128, S4x80x128]; try omega)
  hnl := by
    intro h x
    have hc : c + 4 < 250 := by by_contra hc; rw [if_neg hc] at h; exact absurd h (by decide)
    fin_cases x <;> (simp [S1x80, S250x80]; try omega)
  hns := by intro _ x; have := slot_lt c; fin_cases x; simp [S1, S4]; omega

/-- The first output row of chunk `c` of tile `w`: the edges come in pairs of chunks, one for each half of the batch. -/
abbrev outRow (w c : ℕ) : ℕ := c % 2 * 170000 + 10000 + w * 5000 + c / 2 * 40

theorem outRow_le (w c : ℕ) (hw : w < 32) (hc : c < 250) : outRow w c + 40 ≤ 340000 := by unfold outRow; omega

/-- Chunk `c`'s write-out's offsets at tile `w`. -/
def sOffsAt (w c : ℕ) (hw : w < 32) (hc : c < 250) : StoreOffs where
  ss := ![c % 4]
  so := ![outRow w c, 0]
  sr := ![c % 4, 0, 0]
  hss := by intro x; have := slot_lt c; fin_cases x; simp [S1, S4]; omega
  hso := fun x => match x with
    | 0 => outRow_le w c hw hc
    | 1 => Nat.le_refl 128
  hsr := by intro x; have := slot_lt c; fin_cases x <;> (simp [S1x40x128, S4x40x128]; try omega)

/-! ## The program's offsets are these -/

/-- The slot as the program computes it. -/
def slotW (k : Fin k0_t1_loop.trips) (w : BitVec 32) : BitVec 32 :=
  Scalar.andi (Scalar.addi (Scalar.addi 0#32 (Scalar.muli (Scf.iv 0#32 1#32 k) 2#32)) w) 3#32
/-- The output row as the program computes it. -/
def rowW (t : Fin k0_t2_loop.trips) : BitVec 32 := Scalar.addi 0#32 (Scalar.muli (Scf.iv 0#32 1#32 t) 1#32)

theorem slotW_eq : ∀ (k : Fin k0_t1_loop.trips) (r : Fin 2), (Scalar.indexCast (slotW k (BitVec.ofNat 32 r.val)) : Index).toNat = (2 * k.val + r.val) % 4 := by decide +kernel
theorem rowW_eq : ∀ t : Fin k0_t2_loop.trips, (Scalar.indexCast (rowW t) : Index).toNat = t.val ∧
    (Scalar.indexCast (Scalar.muli 2#32 (rowW t)) : Index).toNat = 2 * t.val ∧
    (Scalar.indexCast (Scalar.addi (Scalar.muli 2#32 (rowW t)) 1#32) : Index).toNat = 2 * t.val + 1 := by decide +kernel

theorem lanes0_text (k : Fin k0_t1_loop.trips) (t : Fin k0_t2_loop.trips) (g : Fin 8) :
    (lanes0 k t g).a = ![(Scalar.indexCast (slotW k 0#32) : Index).toNat, (Scalar.indexCast (Scalar.muli 2#32 (rowW t)) : Index).toNat, 16 * g.val] ∧
    (lanes0 k t g).b = ![(Scalar.indexCast (slotW k 0#32) : Index).toNat, (Scalar.indexCast (Scalar.addi (Scalar.muli 2#32 (rowW t)) 1#32) : Index).toNat, 16 * g.val] ∧
    (lanes0 k t g).o = ![(Scalar.indexCast (slotW k 0#32) : Index).toNat, (Scalar.indexCast (rowW t) : Index).toNat, 16 * g.val] := by
  fin_cases g <;> exact ⟨rfl, rfl, rfl⟩

theorem lanes1_text (k : Fin k0_t1_loop.trips) (t : Fin k0_t3_loop.trips) (g : Fin 8) :
    (lanes1 k t g).a = ![(Scalar.indexCast (slotW k 1#32) : Index).toNat, (Scalar.indexCast (Scalar.muli 2#32 (rowW t)) : Index).toNat, 16 * g.val] ∧
    (lanes1 k t g).b = ![(Scalar.indexCast (slotW k 1#32) : Index).toNat, (Scalar.indexCast (Scalar.addi (Scalar.muli 2#32 (rowW t)) 1#32) : Index).toNat, 16 * g.val] ∧
    (lanes1 k t g).o = ![(Scalar.indexCast (slotW k 1#32) : Index).toNat, (Scalar.indexCast (rowW t) : Index).toNat, 16 * g.val] := by
  fin_cases g <;> exact ⟨rfl, rfl, rfl⟩

theorem lanes0_eq (k : Fin k0_t1_loop.trips) : lanes0 k = (offsAt (2 * k.val)).lanes := by
  funext t g
  obtain ⟨ea, eb, eo⟩ := lanes0_text k t g
  obtain ⟨er, er2, er3⟩ := rowW_eq t
  have es := slotW_eq k 0
  simp only [Fin.val_zero, BitVec.ofNat_eq_ofNat, add_zero] at es
  rw [es] at ea eb eo
  rw [er2] at ea; rw [er3] at eb; rw [er] at eo
  exact Lane.ext ea eb eo

theorem lanes1_eq (k : Fin k0_t1_loop.trips) : lanes1 k = (offsAt (2 * k.val + 1)).lanes := by
  funext t g
  obtain ⟨ea, eb, eo⟩ := lanes1_text k t g
  obtain ⟨er, er2, er3⟩ := rowW_eq t
  have es := slotW_eq k 1
  simp only [Fin.val_one, BitVec.ofNat_eq_ofNat] at es
  rw [es] at ea eb eo
  rw [er2] at ea; rw [er3] at eb; rw [er] at eo
  exact Lane.ext ea eb eo

theorem chunk_text : ∀ k : Fin k0_t1_loop.trips,
    (k0_off18 k 0#32 = ![(2 * k.val) % 4, 0, 0] ∧ k0_off19 k 0#32 = ![(2 * k.val) % 4] ∧ k0_off49 k 0#32 = ![(2 * k.val) % 4, 0, 0]
      ∧ k0_cond9 k = (if 4 ≤ 2 * k.val then 1#1 else 0#1) ∧ k0_off20 k = ![(2 * k.val) % 4, 0, 0] ∧ k0_off21 k = ![(2 * k.val) % 4]
      ∧ k0_cond10 k = (if 2 * k.val + 4 < 250 then 1#1 else 0#1) ∧ k0_off46 k = ![(2 * k.val) % 4, 0, 0] ∧ k0_off47 k = ![2 * k.val + 4, 0] ∧ k0_off48 k = ![(2 * k.val) % 4])
    ∧ (k0_off18 k 1#32 = ![(2 * k.val + 1) % 4, 0, 0] ∧ k0_off19 k 1#32 = ![(2 * k.val + 1) % 4] ∧ k0_off49 k 1#32 = ![(2 * k.val + 1) % 4, 0, 0]
      ∧ k0_cond11 k = (if 4 ≤ 2 * k.val + 1 then 1#1 else 0#1) ∧ k0_off51 k = ![(2 * k.val + 1) % 4, 0, 0] ∧ k0_off52 k = ![(2 * k.val + 1) % 4]
      ∧ k0_cond12 k = (if 2 * k.val + 1 + 4 < 250 then 1#1 else 0#1) ∧ k0_off77 k = ![(2 * k.val + 1) % 4, 0, 0] ∧ k0_off78 k = ![2 * k.val + 1 + 4, 0] ∧ k0_off79 k = ![(2 * k.val + 1) % 4]) := by
  decide +kernel

theorem offs0_eq (k : Fin k0_t1_loop.trips) : offs0 k = offsAt (2 * k.val) := by
  obtain ⟨h, -⟩ := chunk_text k
  exact Offs.ext h.1 h.2.1 h.2.2.2.1 h.2.2.2.2.1 h.2.2.2.2.2.1 (lanes0_eq k) h.2.2.2.2.2.2.1 h.2.2.2.2.2.2.2.1 h.2.2.2.2.2.2.2.2.1 h.2.2.2.2.2.2.2.2.2

theorem offs1_eq (k : Fin k0_t1_loop.trips) : offs1 k = offsAt (2 * k.val + 1) := by
  obtain ⟨-, h⟩ := chunk_text k
  exact Offs.ext h.1 h.2.1 h.2.2.2.1 h.2.2.2.2.1 h.2.2.2.2.2.1 (lanes1_eq k) h.2.2.2.2.2.2.1 h.2.2.2.2.2.2.2.1 h.2.2.2.2.2.2.2.2.1 h.2.2.2.2.2.2.2.2.2

theorem off50_eq : ∀ (i : grid0.Coords) (k : Fin k0_t1_loop.trips) (r : Fin 2),
    k0_off50 i k (BitVec.ofNat 32 r.val) 0 = outRow (wid i) (2 * k.val + r.val) := by decide +kernel

theorem two_k_lt (k : Fin k0_t1_loop.trips) : 2 * k.val < 250 := by have := lt_of_lt_of_eq k.isLt trips1; omega
theorem two_k1_lt (k : Fin k0_t1_loop.trips) : 2 * k.val + 1 < 250 := by have := lt_of_lt_of_eq k.isLt trips1; omega

theorem sOffs0_eq (i : grid0.Coords) (k : Fin k0_t1_loop.trips) : sOffs0 i k = sOffsAt (wid i) (2 * k.val) (wid_lt i) (two_k_lt k) := by
  obtain ⟨h, -⟩ := chunk_text k
  refine StoreOffs.ext h.2.1 (funext fun x => ?_) h.2.2.1
  match x with
  | 0 => exact off50_eq i k 0
  | 1 => rfl

theorem sOffs1_eq (i : grid0.Coords) (k : Fin k0_t1_loop.trips) : sOffs1 i k = sOffsAt (wid i) (2 * k.val + 1) (wid_lt i) (two_k1_lt k) := by
  obtain ⟨-, h⟩ := chunk_text k
  refine StoreOffs.ext h.2.1 (funext fun x => ?_) h.2.2.1
  match x with
  | 0 => exact off50_eq i k 1
  | 1 => rfl

end Cert.Proof.Unpool

end
-- ==== Proof.Setup.lean ====
/-
  The setting of the kernel's run: the program as the launch theorem sees it, the buffers, the contents the run leaves,
  and the parts of the buffers that the program's views name.
-/
module

public import proofs.«01_k».proof.Proof.Offsets
public import Idealize.ShloMosaic.Lib.Pointwise
public import Idealize.ShloMosaic.Lib.Transfers
public import Idealize.ShloMosaic.Lib.Batch

@[expose] public section

noncomputable section

namespace Cert.Proof.Unpool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The table: the inputs' rows, the two halves of the batch one after the other. -/
abbrev tabM : Memref sig .scVector .hbm S20000x128 .f32 := Memref.whole main_v7_scv
/-- The row numbers, for each tile its 250 chunks of eighty. -/
abbrev idxM : Memref sig .scVector .hbm S32x250x80 .i32 := Memref.whole main_v6_scv
/-- The output's rows, the two halves of the batch one after the other. -/
abbrev outM : Memref sig .scVector .hbm S340000x128 .f32 := Memref.whole main_v8_scv
/-- A tile's row numbers. -/
abbrev lstM : Memref sig .scVector .vmem S250x80 .i32 := Memref.whole cc0_scratch0
/-- A tile's four slots of gathered rows. -/
abbrev gatM : Memref sig .scVector .vmem S4x80x128 .f32 := Memref.whole cc0_scratch1
/-- A tile's four slots of averaged rows. -/
abbrev avgM : Memref sig .scVector .vmem S4x40x128 .f32 := Memref.whole cc0_scratch2

abbrev tLoc (d : Dev nD) : Loc nD τ sig := (SparseCore.T d).loc main_v7
abbrev iLoc (d : Dev nD) : Loc nD τ sig := (SparseCore.T d).loc main_v6
abbrev oLoc (d : Dev nD) : Loc nD τ sig := (SparseCore.T d).loc main_v8

abbrev cV (L : grid0.Coords) : Fin τ.nSC := (L 0).castLE hcore0
abbrev jV (L : grid0.Coords) : Fin τ.nSub := (L 1).castLE hsub0
/-- The tile at the grid's coordinates. -/
abbrev thr (d : Dev nD) (L : grid0.Coords) : Thread nD τ := V d (cV L) (jV L)
abbrev lLoc (d : Dev nD) (L : grid0.Coords) : Loc nD τ sig := (thr d L).loc cc0_scratch0
abbrev gLoc (d : Dev nD) (L : grid0.Coords) : Loc nD τ sig := (thr d L).loc cc0_scratch1
abbrev aLoc (d : Dev nD) (L : grid0.Coords) : Loc nD τ sig := (thr d L).loc cc0_scratch2

/-! ## The parts of the buffers -/

/-- A slot of gathered rows. -/
def gSlot (s : ℕ) : Finset S4x80x128.Idx := Finset.univ.filter fun x => (x 0).val = s
/-- A slot of averaged rows. -/
def aSlot (s : ℕ) : Finset S4x40x128.Idx := Finset.univ.filter fun x => (x 0).val = s
/-- One chunk's row numbers. -/
def lRow (c : ℕ) : Finset S250x80.Idx := Finset.univ.filter fun x => (x 0).val = c
/-- One tile's row numbers. -/
def iRow (w : ℕ) : Finset S32x250x80.Idx := Finset.univ.filter fun x => (x 0).val = w
/-- `n` output rows from row `a`. -/
def oRows (a n : ℕ) : Finset S340000x128.Idx := Finset.univ.filter fun x => a ≤ (x 0).val ∧ (x 0).val < a + n

theorem mem_gSlot {s : ℕ} {x : S4x80x128.Idx} : x ∈ gSlot s ↔ (x 0).val = s := by simp [gSlot]
theorem mem_aSlot {s : ℕ} {x : S4x40x128.Idx} : x ∈ aSlot s ↔ (x 0).val = s := by simp [aSlot]
theorem mem_lRow {c : ℕ} {x : S250x80.Idx} : x ∈ lRow c ↔ (x 0).val = c := by simp [lRow]
theorem mem_iRow {w : ℕ} {x : S32x250x80.Idx} : x ∈ iRow w ↔ (x 0).val = w := by simp [iRow]
theorem mem_oRows {a n : ℕ} {x : S340000x128.Idx} : x ∈ oRows a n ↔ a ≤ (x 0).val ∧ (x 0).val < a + n := by
  unfold oRows; rw [Finset.mem_filter]; exact ⟨fun h => h.2, fun h => ⟨Finset.mem_univ _, h⟩⟩

/-! ## The program's views of them -/

abbrev gatV (s : ℕ) (h : ∀ x, (![s, 0, 0] : Fin 3 → ℕ) x + S1x80x128.size x ≤ S4x80x128.size x) : Memref sig .scVector .vmem S80x128 .f32 :=
  (gatM.slice (Rect.unit (s := S4x80x128) ![s, 0, 0] S1x80x128.size h) (fun _ => rfl)).squeeze S80x128 squeezes_S1x80x128_S80x128
abbrev avgV (s : ℕ) (h : ∀ x, (![s, 0, 0] : Fin 3 → ℕ) x + S1x40x128.size x ≤ S4x40x128.size x) : Memref sig .scVector .vmem S40x128 .f32 :=
  (avgM.slice (Rect.unit (s := S4x40x128) ![s, 0, 0] S1x40x128.size h) (fun _ => rfl)).squeeze S40x128 squeezes_S1x40x128_S40x128
abbrev lstV (c : ℕ) (h : ∀ x, (![c, 0] : Fin 2 → ℕ) x + S1x80.size x ≤ S250x80.size x) : Memref sig .scVector .vmem S80 .i32 :=
  (lstM.slice (Rect.unit (s := S250x80) ![c, 0] S1x80.size h) (fun _ => rfl)).squeeze S80 squeezes_S1x80_S80
abbrev idxV (w : ℕ) (h : ∀ x, (![w, 0, 0] : Fin 3 → ℕ) x + S1x250x80.size x ≤ S32x250x80.size x) : Memref sig .scVector .hbm S250x80 .i32 :=
  (idxM.slice (Rect.unit (s := S32x250x80) ![w, 0, 0] S1x250x80.size h) (fun _ => rfl)).squeeze S250x80 squeezes_S1x250x80_S250x80
abbrev outV40 (a : ℕ) (h : ∀ x, (![a, 0] : Fin 2 → ℕ) x + S40x128.size x ≤ S340000x128.size x) : Memref sig .scVector .hbm S40x128 .f32 :=
  outM.slice (Rect.unit (s := S340000x128) ![a, 0] S40x128.size h) (fun _ => rfl)
abbrev outV80 (a : ℕ) (h : ∀ x, (![a, 0] : Fin 2 → ℕ) x + S80x128.size x ≤ S340000x128.size x) : Memref sig .scVector .hbm S80x128 .f32 :=
  outM.slice (Rect.unit (s := S340000x128) ![a, 0] S80x128.size h) (fun _ => rfl)
abbrev tabV80 (a : ℕ) (h : ∀ x, (![a, 0] : Fin 2 → ℕ) x + S80x128.size x ≤ S20000x128.size x) : Memref sig .scVector .hbm S80x128 .f32 :=
  tabM.slice (Rect.unit (s := S20000x128) ![a, 0] S80x128.size h) (fun _ => rfl)
abbrev tabVAll : Memref sig .scVector .hbm S20000x128 .f32 :=
  tabM.slice (Rect.unit (s := S20000x128) ![0, 0] S20000x128.size inb_S20000x128_S20000x128_0_0) (fun _ => rfl)
abbrev semV (A : DmaSems sig S4) (s : ℕ) (h : ∀ x, (![s] : Fin 1 → ℕ) x + S1.size x ≤ S4.size x) : DmaSem sig :=
  ((A.slice (Rect.unit (s := S4) ![s] S1.size h)).squeeze S_ squeezes_S1_S_).sem

/-- A two-axis index with a unit axis put in front. -/
theorem unsqueeze2 {a b : ℕ} (h : (⟨2, ![a, b]⟩ : Shape).numel = (⟨3, ![1, a, b]⟩ : Shape).numel) (x : Fin a) (y : Fin b) :
    Shape.reshapeEquiv h (ix2 x y) = ix3 (0 : Fin 1) x y :=
  Shape.reshapeEquiv_eq_of_rowMajor h (by
    rw [Shape.rowMajor_val_three, Shape.rowMajor_val_two]
    show (0 * a + x.val) * b + y.val = x.val * b + y.val
    rw [Nat.zero_mul, Nat.zero_add])
/-- A one-axis index with a unit axis put in front. -/
theorem unsqueeze1 {a : ℕ} (h : (⟨1, ![a]⟩ : Shape).numel = (⟨2, ![1, a]⟩ : Shape).numel) (x : Fin a) :
    Shape.reshapeEquiv h (ix1 x) = ix2 (0 : Fin 1) x :=
  Shape.reshapeEquiv_eq_of_rowMajor h (by
    rw [Shape.rowMajor_val_two, Shape.rowMajor_val_one]
    show 0 * a + x.val = x.val
    rw [Nat.zero_mul, Nat.zero_add])

theorem set_gatV (s : ℕ) (h) : (gatV s h).view.set = gSlot s := by
  show ((gatM.view.slice (Rect.unit (s := S4x80x128) ![s, 0, 0] S1x80x128.size h)).reshape S80x128 squeezes_S1x80x128_S80x128.numel_eq).set = _
  rw [View.set_reshape, View.set_slice_whole]
  ext x
  rw [Rect.mem_set_unit, mem_gSlot]
  constructor
  · intro H; have := H 0; simp [S1x80x128] at this; omega
  · intro H a
    match a with
    | 0 => simp [S1x80x128]; omega
    | 1 => exact ⟨Nat.zero_le _, lt_of_lt_of_eq (x 1).isLt (Nat.zero_add _).symm⟩
    | 2 => exact ⟨Nat.zero_le _, lt_of_lt_of_eq (x 2).isLt (Nat.zero_add _).symm⟩

theorem set_avgV (s : ℕ) (h) : (avgV s h).view.set = aSlot s := by
  show ((avgM.view.slice (Rect.unit (s := S4x40x128) ![s, 0, 0] S1x40x128.size h)).reshape S40x128 squeezes_S1x40x128_S40x128.numel_eq).set = _
  rw [View.set_reshape, View.set_slice_whole]
  ext x
  rw [Rect.mem_set_unit, mem_aSlot]
  constructor
  · intro H; have := H 0; simp [S1x40x128] at this; omega
  · intro H a
    match a with
    | 0 => simp [S1x40x128]; omega
    | 1 => exact ⟨Nat.zero_le _, lt_of_lt_of_eq (x 1).isLt (Nat.zero_add _).symm⟩
    | 2 => exact ⟨Nat.zero_le _, lt_of_lt_of_eq (x 2).isLt (Nat.zero_add _).symm⟩

theorem set_lstV (c : ℕ) (h) : (lstV c h).view.set = lRow c := by
  show ((lstM.view.slice (Rect.unit (s := S250x80) ![c, 0] S1x80.size h)).reshape S80 squeezes_S1x80_S80.numel_eq).set = _
  rw [View.set_reshape, View.set_slice_whole]
  ext x
  rw [Rect.mem_set_unit, mem_lRow]
  constructor
  · intro H; have := H 0; simp [S1x80] at this; omega
  · intro H a
    match a with
    | 0 => simp [S1x80]; omega
    | 1 => exact ⟨Nat.zero_le _, lt_of_lt_of_eq (x 1).isLt (Nat.zero_add _).symm⟩

theorem set_idxV (w : ℕ) (h) : (idxV w h).view.set = iRow w := by
  show ((idxM.view.slice (Rect.unit (s := S32x250x80) ![w, 0, 0] S1x250x80.size h)).reshape S250x80 squeezes_S1x250x80_S250x80.numel_eq).set = _
  rw [View.set_reshape, View.set_slice_whole]
  ext x
  rw [Rect.mem_set_unit, mem_iRow]
  constructor
  · intro H; have := H 0; simp [S1x250x80] at this; omega
  · intro H a
    match a with
    | 0 => simp [S1x250x80]; omega
    | 1 => exact ⟨Nat.zero_le _, lt_of_lt_of_eq (x 1).isLt (Nat.zero_add _).symm⟩
    | 2 => exact ⟨Nat.zero_le _, lt_of_lt_of_eq (x 2).isLt (Nat.zero_add _).symm⟩

theorem set_out (a n : ℕ) (size : Fin 2 → ℕ) (h0 : size 0 = n) (h1 : size 1 = 128) (h : ∀ x, (![a, 0] : Fin 2 → ℕ) x + size x ≤ S340000x128.size x) :
    (Rect.unit (s := S340000x128) ![a, 0] size h).set = oRows a n := by
  ext x
  rw [Rect.mem_set_unit, mem_oRows]
  constructor
  · intro H
    have := H 0
    rw [h0] at this
    exact this
  · intro H b
    match b with
    | 0 => exact ⟨H.1, lt_of_lt_of_eq H.2 (by rw [← h0]; rfl)⟩
    | 1 => exact ⟨Nat.zero_le _, lt_of_lt_of_eq (x 1).isLt (by show 128 = 0 + size 1; rw [h1])⟩

theorem set_outV40 (a : ℕ) (h) : (outV40 a h).view.set = oRows a 40 := by
  show (outM.view.slice _).set = _
  rw [View.set_slice_whole]; exact set_out a 40 _ rfl rfl h
theorem set_outV80 (a : ℕ) (h) : (outV80 a h).view.set = oRows a 80 := by
  show (outM.view.slice _).set = _
  rw [View.set_slice_whole]; exact set_out a 80 _ rfl rfl h

theorem emb_gatV (s : ℕ) (h) (hs : s < 4) (p : Fin 80) (q : Fin 128) : (gatV s h).view.emb (ix2 p q : S80x128.Idx) = (ix3 (⟨s, hs⟩ : Fin 4) p q : S4x80x128.Idx) := by
  show (Rect.unit (s := S4x80x128) ![s, 0, 0] S1x80x128.size h).emb (Shape.reshapeEquiv squeezes_S1x80x128_S80x128.numel_eq (ix2 p q)) = _
  rw [unsqueeze2]
  funext a
  apply Fin.ext
  match a with
  | 0 => show s + 1 * 0 = s; omega
  | 1 => show 0 + 1 * p.val = p.val; omega
  | 2 => show 0 + 1 * q.val = q.val; omega

theorem emb_avgV (s : ℕ) (h) (hs : s < 4) (p : Fin 40) (q : Fin 128) : (avgV s h).view.emb (ix2 p q : S40x128.Idx) = (ix3 (⟨s, hs⟩ : Fin 4) p q : S4x40x128.Idx) := by
  show (Rect.unit (s := S4x40x128) ![s, 0, 0] S1x40x128.size h).emb (Shape.reshapeEquiv squeezes_S1x40x128_S40x128.numel_eq (ix2 p q)) = _
  rw [unsqueeze2]
  funext a
  apply Fin.ext
  match a with
  | 0 => show s + 1 * 0 = s; omega
  | 1 => show 0 + 1 * p.val = p.val; omega
  | 2 => show 0 + 1 * q.val = q.val; omega

theorem emb_idxV (w : ℕ) (h) (hw : w < 32) (p : Fin 250) (q : Fin 80) : (idxV w h).view.emb (ix2 p q : S250x80.Idx) = (ix3 (⟨w, hw⟩ : Fin 32) p q : S32x250x80.Idx) := by
  show (Rect.unit (s := S32x250x80) ![w, 0, 0] S1x250x80.size h).emb (Shape.reshapeEquiv squeezes_S1x250x80_S250x80.numel_eq (ix2 p q)) = _
  rw [unsqueeze2]
  funext a
  apply Fin.ext
  match a with
  | 0 => show w + 1 * 0 = w; omega
  | 1 => show 0 + 1 * p.val = p.val; omega
  | 2 => show 0 + 1 * q.val = q.val; omega

theorem emb_lstV (c : ℕ) (h) (hc : c < 250) (q : Fin 80) : (lstV c h).view.emb (ix1 q : S80.Idx) = (ix2 (⟨c, hc⟩ : Fin 250) q : S250x80.Idx) := by
  show (Rect.unit (s := S250x80) ![c, 0] S1x80.size h).emb (Shape.reshapeEquiv squeezes_S1x80_S80.numel_eq (ix1 q)) = _
  rw [unsqueeze1]
  funext a
  apply Fin.ext
  match a with
  | 0 => show c + 1 * 0 = c; omega
  | 1 => show 0 + 1 * q.val = q.val; omega

/-! ## The contents -/

/-- A row number as a row of the table. -/
def tabRow (n : ℕ) : Fin 20000 := ⟨n % 20000, Nat.mod_lt _ (by omega)⟩

/-- The table's rows that chunk `c` of the list names, in any slot. -/
def gathered (fT : S20000x128.Idx → Elt F .f32) (fl : S250x80.Idx → Elt F .i32) (c : Fin 250) : S4x80x128.Idx → Elt F .f32 :=
  fun x => fT (ix2 (tabRow (fl (ix2 c (x 1))).toNat) (x 2))

variable [FloatOps F]

/-- Half the sum. -/
def avg (x y : F .f32) : F .f32 := FloatOps.mulf (Scalar.ofBits .f32 0x3F000000#32) (FloatOps.addf x y)

/-- Averaged row `p` of chunk `c`: half the sum of the table's rows that the list's entries `2p` and `2p + 1` name. -/
def avgAt (fT : S20000x128.Idx → Elt F .f32) (fl : S250x80.Idx → Elt F .i32) (c : Fin 250) (p : Fin 40) (q : Fin 128) : F .f32 :=
  avg (fT (ix2 (tabRow (fl (ix2 c (⟨2 * p.val, by omega⟩ : Fin 80))).toNat) q)) (fT (ix2 (tabRow (fl (ix2 c (⟨2 * p.val + 1, by omega⟩ : Fin 80))).toNat) q))

/-- Chunk `c`'s averaged rows, in any slot. -/
def averaged (fT : S20000x128.Idx → Elt F .f32) (fl : S250x80.Idx → Elt F .i32) (c : Fin 250) : S4x40x128.Idx → Elt F .f32 :=
  fun x => avgAt fT fl c (x 1) (x 2)

/-- One tile's list, out of all the tiles'. -/
def listOf (fI : S32x250x80.Idx → Elt F .i32) (w : Fin 32) : S250x80.Idx → Elt F .i32 := fun x => fI (ix3 w (x 0) (x 1))

/-- What the run leaves at row `r` and lane `q` of the output: in each half of the batch the inputs' rows, then for each
    edge half the sum of the two rows it names. -/
def outAt (fT : S20000x128.Idx → Elt F .f32) (fI : S32x250x80.Idx → Elt F .i32) (r : Fin 340000) (q : Fin 128) : Elt F .f32 :=
  if h : r.val % 170000 < 10000 then fT (ix2 (⟨r.val / 170000 * 10000 + r.val % 170000, by omega⟩ : Fin 20000) q)
  else avgAt fT (listOf fI ⟨(r.val % 170000 - 10000) / 5000, by omega⟩)
    ⟨2 * ((r.val % 170000 - 10000) % 5000 / 40) + r.val / 170000, by omega⟩ ⟨(r.val % 170000 - 10000) % 40, by omega⟩ q

/-- What the run leaves in the output. -/
def outVal (fT : S20000x128.Idx → Elt F .f32) (fI : S32x250x80.Idx → Elt F .i32) : S340000x128.Idx → Elt F .f32 :=
  fun x => outAt fT fI (x 0) (x 1)

end Cert.Proof.Unpool

end
-- ==== Proof.Rows.lean ====
/-
  Averaging one chunk: from a slot of gathered rows the eighty rows are averaged in pairs, sixteen lanes at a time, into
  a slot of forty rows.
-/
module

public import proofs.«01_k».proof.Proof.Setup

@[expose] public section

noncomputable section

namespace Cert.Proof.Unpool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The tile's program run from `P`, ending in `Q`. -/
abbrev runs {α : Type} (p : TP F L α) (Q : α → sProp 𝕄) : sProp 𝕄 :=
  wp frame (wpE (defs₀ (F := F)) 𝒱₀ (thr d L) none) Set.univ p Q

variable (fT : S20000x128.Idx → Elt F .f32) (fl : S250x80.Idx → Elt F .i32) (c : Fin 250)

/-- The slot's rows below `t`, and row `t`'s lanes below `16 g`, are averaged. -/
def AvgTo (s t g : ℕ) (f : S4x40x128.Idx → Elt F .f32) : Prop :=
  ∀ x : S4x40x128.Idx, (x 0).val = s → ((x 1).val < t ∨ ((x 1).val = t ∧ (x 2).val < 16 * g)) → f x = averaged fT fl c x

/-- The averaging under way. -/
abbrev avgInv (s t g : ℕ) : sProp 𝕄 :=
  iprop((gLoc d L ↦[gSlot s]{fullShare} gathered fT fl c) ∗ ∃ f, ⌜AvgTo fT fl c s t g f⌝ ∗ (aLoc d L ↦[aSlot s]{fullShare} f))

theorem pay_at (x y : Vec F S1x1x16 .f32) (j : S1x1x16.Idx) : k0_pay1 x y j = avg (x j) (y j) := by
  obtain ⟨a, b, q, rfl⟩ : ∃ a b q, j = ix3 a b q := ⟨_, _, _, eq_ix3 j⟩
  obtain rfl : a = 0 := Subsingleton.elim _ _
  obtain rfl : b = 0 := Subsingleton.elim _ _
  pointwise [k0_pay1, avg]

/-- Reading sixteen lanes of a gathered row. -/
theorem set_lanesG (o : Fin 3 → ℕ) (h : ∀ x, o x + S1x1x16.size x ≤ S4x80x128.size x) :
    (gatM.access (Rect.unit (s := S4x80x128) o S1x1x16.size h)).set ⊆ gSlot (o 0) := by
  show (gatM.view.slice _).set ⊆ _
  rw [View.set_slice_whole]
  intro x hx
  rw [Rect.mem_set_unit] at hx
  have := hx 0
  simp [S1x1x16] at this
  exact mem_gSlot.mpr (by omega)
theorem mem_lanesA (o : Fin 3 → ℕ) (h : ∀ x, o x + S1x1x16.size x ≤ S4x40x128.size x) (x : S4x40x128.Idx) :
    x ∈ (avgM.access (Rect.unit (s := S4x40x128) o S1x1x16.size h)).set
      ↔ (x 0).val = o 0 ∧ (x 1).val = o 1 ∧ o 2 ≤ (x 2).val ∧ (x 2).val < o 2 + 16 := by
  have e : (avgM.access (Rect.unit (s := S4x40x128) o S1x1x16.size h)).set = (Rect.unit (s := S4x40x128) o S1x1x16.size h).set := View.set_slice_whole _ _
  rw [e, Rect.mem_set_unit]

  constructor
  · intro hx
    have h0 := hx 0; have h1 := hx 1; have h2 := hx 2
    simp [S1x1x16] at h0 h1 h2
    omega
  · rintro ⟨h0, h1, h2, h3⟩ a
    match a with
    | 0 => simp [S1x1x16]; omega
    | 1 => simp [S1x1x16]; omega
    | 2 => simp [S1x1x16]; omega

/-- Storing a lane group extends what is averaged. -/
theorem avgTo_store (s t g : ℕ) (hs : s < 4) (ht : t < 40) (hg : g < 8) (f : S4x40x128.Idx → Elt F .f32) (hf : AvgTo fT fl c s t g f) :
    AvgTo fT fl c s t (g + 1) ((avgM.access (Rect.unit (s := S4x40x128) (laneAt s t g hs ht hg).o S1x1x16.size (laneAt s t g hs ht hg).ho)).write (Elt F) f
      (k0_pay1 ((gatM.access (Rect.unit (s := S4x80x128) (laneAt s t g hs ht hg).a S1x1x16.size (laneAt s t g hs ht hg).ha)).read (Elt F) (gathered fT fl c))
        ((gatM.access (Rect.unit (s := S4x80x128) (laneAt s t g hs ht hg).b S1x1x16.size (laneAt s t g hs ht hg).hb)).read (Elt F) (gathered fT fl c))) Finset.univ) := by
  intro x hx0 hlt
  by_cases hx : x ∈ (avgM.access (Rect.unit (s := S4x40x128) (laneAt s t g hs ht hg).o S1x1x16.size (laneAt s t g hs ht hg).ho)).set
  · obtain ⟨j, -, rfl⟩ := Finset.mem_map.mp hx
    rw [View.write_emb_of_mem _ _ (Finset.mem_univ j), cast_eq, pay_at]
    have j0 : (j 0).val = 0 := by have : (j 0).val < 1 := (j 0).isLt; omega
    have j1 : (j 1).val = 0 := by have : (j 1).val < 1 := (j 1).isLt; omega
    show avg (gathered fT fl c ((Rect.unit (s := S4x80x128) (laneAt s t g hs ht hg).a S1x1x16.size (laneAt s t g hs ht hg).ha).emb j))
        (gathered fT fl c ((Rect.unit (s := S4x80x128) (laneAt s t g hs ht hg).b S1x1x16.size (laneAt s t g hs ht hg).hb).emb j))
      = averaged fT fl c ((Rect.unit (s := S4x40x128) (laneAt s t g hs ht hg).o S1x1x16.size (laneAt s t g hs ht hg).ho).emb j)
    unfold gathered averaged avgAt
    congr 4
    · congr 3; apply Fin.ext
      show 2 * t + 1 * (j 1).val = 2 * (t + 1 * (j 1).val); omega
    · congr 3; apply Fin.ext
      show 2 * t + 1 + 1 * (j 1).val = 2 * (t + 1 * (j 1).val) + 1; omega
  · rw [View.write_of_not_mem _ _ _ hx]
    refine hf x hx0 ?_
    rw [mem_lanesA] at hx
    have e0 : (laneAt s t g hs ht hg).o 0 = s := rfl
    have e1 : (laneAt s t g hs ht hg).o 1 = t := rfl
    have e2 : (laneAt s t g hs ht hg).o 2 = 16 * g := rfl
    rw [e0, e1, e2] at hx
    omega

/-- One lane group. -/
theorem lane_wp (s t g : ℕ) (hs : s < 4) (ht : t < 40) (hg : g < 8) :
    avgInv d L fT fl c s t g
      ⊢ runs d L (laneProg (F := F) L gatM avgM (laneAt s t g hs ht hg)) fun _ => avgInv d L fT fl c s t (g + 1) := by
  unfold laneProg
  simp only [Prog.bind_lift]
  iintro ⟨Hg, %f, %hf, Ha⟩
  have hsub : (avgM.access (Rect.unit (s := S4x40x128) (laneAt s t g hs ht hg).o S1x1x16.size (laneAt s t g hs ht hg).ho)).set ⊆ aSlot s :=
    fun x hx => mem_aSlot.mpr ((mem_lanesA _ _ x).mp hx).1
  iapply (wp_load_rect 𝒱₀ (thr d L) none Set.univ (m := gatM) (q := fullShare) (f := gathered fT fl c) (set_lanesG (laneAt s t g hs ht hg).a (laneAt s t g hs ht hg).ha)) $$ [Hg]
  · iexact Hg
  iintro Hg
  iapply (wp_load_rect 𝒱₀ (thr d L) none Set.univ (m := gatM) (q := fullShare) (f := gathered fT fl c) (set_lanesG (laneAt s t g hs ht hg).b (laneAt s t g hs ht hg).hb)) $$ [Hg]
  · iexact Hg
  iintro Hg
  iapply (wp_load_rect 𝒱₀ (thr d L) none Set.univ (m := avgM) (q := fullShare) (f := f) hsub) $$ [Ha]
  · iexact Ha
  iintro Ha
  iapply (wp_store 𝒱₀ (thr d L) none Set.univ (m := avgM) (f := f) hsub) $$ [Ha]
  · iexact Ha
  iintro Ha
  rw [wp_ret]
  imodintro
  isplitl [Hg]; · iexact Hg
  iexists _
  isplitr
  swap; · iexact Ha
  ipureintro
  exact avgTo_store fT fl c s t g hs ht hg f hf

/-- A program and what follows it. -/
theorem then_wp {α β : Type} {p : TP F L α} {k : α → TP F L β} {P : sProp 𝕄} {P' : α → sProp 𝕄} {Q : β → sProp 𝕄}
    (hp : P ⊢ runs d L p P') (hk : ∀ a, P' a ⊢ runs d L (k a) Q) : P ⊢ runs d L (p >>= k) Q := by
  unfold runs at *
  rw [wp_bind]
  exact hp.trans (wp_mono frame _ _ hk)

/-- One output row. -/
theorem row_wp (s t : ℕ) (hs : s < 4) (ht : t < 40) :
    avgInv d L fT fl c s t 0
      ⊢ runs d L (rowProg (F := F) L gatM avgM (fun g => laneAt s t g.val hs ht g.isLt)) fun _ => avgInv d L fT fl c s (t + 1) 0 := by
  have hl := fun (g : ℕ) (hg : g < 8) => lane_wp d L fT fl c s t g hs ht hg
  unfold rowProg
  refine then_wp d L (hl 0 (by omega)) fun _ => then_wp d L (hl 1 (by omega)) fun _ => then_wp d L (hl 2 (by omega)) fun _ =>
    then_wp d L (hl 3 (by omega)) fun _ => then_wp d L (hl 4 (by omega)) fun _ => then_wp d L (hl 5 (by omega)) fun _ =>
    then_wp d L (hl 6 (by omega)) fun _ => then_wp d L (hl 7 (by omega)) fun _ => ?_
  show _ ⊢ wp _ _ _ (Prog.ret _) _
  rw [wp_ret]
  iintro ⟨Hg, %f, %hf, Ha⟩
  imodintro
  isplitl [Hg]; · iexact Hg
  iexists f
  isplitr
  swap; · iexact Ha
  ipureintro
  intro x hx0 hlt
  refine hf x hx0 ?_
  have : (x 2).val < 128 := (x 2).isLt
  omega

/-- One chunk: the slot of gathered rows is averaged into the slot of rows. -/
theorem rows_wp (s : ℕ) (hs : s < 4) :
    iprop((gLoc d L ↦[gSlot s]{fullShare} gathered fT fl c) ∗ ∃ f, aLoc d L ↦[aSlot s]{fullShare} f)
      ⊢ runs d L (Scf.Loop.for k0_t2_loop k0_t2_ok ⟨⟩ (fun t _ => rowProg (F := F) L gatM avgM
            (fun g => laneAt s t.val g.val hs (trips2 ▸ t.isLt) g.isLt)) : TP F L Unit)
          fun _ => iprop((gLoc d L ↦[gSlot s]{fullShare} gathered fT fl c) ∗ (aLoc d L ↦[aSlot s]{fullShare} averaged fT fl c)) := by
  iintro ⟨Hg, %f, Ha⟩
  iapply (Scf.wp_for frame (wpE (defs₀ (F := F)) 𝒱₀ (thr d L) none) Set.univ _ _ _ k0_t2_ok ⟨⟩ _ (fun t _ => avgInv d L fT fl c s t 0)
    (fun t _ => row_wp d L fT fl c s t.val hs (trips2 ▸ t.isLt)))
  isplitl [Hg Ha]
  · isplitl [Hg]; · iexact Hg
    iexists f
    isplitr
    swap; · iexact Ha
    ipureintro
    intro x _ hlt
    omega
  · iintro %_ ⟨Hg, %f', %hf, Ha⟩
    isplitl [Hg]; · iexact Hg
    have e : ∀ x ∈ aSlot s, f' x = averaged fT fl c x := fun x hx =>
      hf x (mem_aSlot.mp hx) (Or.inl (lt_of_lt_of_eq (show (x 1).val < 40 from (x 1).isLt) trips2.symm))
    iapply (Entails.of_eq (pointsTo_congr (ℓ := aLoc d L) (I := aSlot s) (q := fullShare) (f := f') (g := averaged fT fl c) e))
    iexact Ha

end Cert.Proof.Unpool

end
-- ==== Proof.Ring.lean ====
/-
  The two rings of the edge loop, four slots each: a slot of gathered rows between its gather's start and its wait, and
  a slot of averaged rows between its write-out's start and its wait. Each transfer's delivery is stated at the contents
  it lands.
-/
module

public import proofs.«01_k».proof.Proof.Rows

@[expose] public section

noncomputable section

namespace Cert.Proof.Unpool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (fT : S20000x128.Idx → Elt F .f32) (fl : S250x80.Idx → Elt F .i32)

/-! ## Shares and cells -/

/-- The tile's share of the table. -/
abbrev tileShare (w : ℕ) : PosShare TreeShare := Transfers.shareTokN fullShare w
/-- A piece of the tile's share of the table. -/
abbrev tabShare (L : grid0.Coords) (s : ℕ) : PosShare TreeShare := Transfers.shareTokN (tileShare (wid L)) s
/-- A piece of the tile's list of row numbers. -/
abbrev lstShare (s : ℕ) : PosShare TreeShare := Transfers.shareTokN fullShare s

theorem slotOk (s : Fin 4) : ∀ x, (![s.val] : Fin 1 → ℕ) x + S1.size x ≤ S4.size x := by
  intro x; have := s.isLt; fin_cases x; simp [S1, S4]
theorem gatOk (s : Fin 4) : ∀ x, (![s.val, 0, 0] : Fin 3 → ℕ) x + S1x80x128.size x ≤ S4x80x128.size x := by
  intro x; have := s.isLt; fin_cases x <;> (simp [S1x80x128, S4x80x128]; try omega)
theorem avgOk (s : Fin 4) : ∀ x, (![s.val, 0, 0] : Fin 3 → ℕ) x + S1x40x128.size x ≤ S4x40x128.size x := by
  intro x; have := s.isLt; fin_cases x <;> (simp [S1x40x128, S4x40x128]; try omega)
theorem lstOk (c : ℕ) (hc : c < 250) : ∀ x, (![c, 0] : Fin 2 → ℕ) x + S1x80.size x ≤ S250x80.size x := by
  intro x; fin_cases x <;> (simp [S1x80, S250x80]; try omega)

/-- Chunk `c`'s slot. -/
def slotOf (c : ℕ) : Fin 4 := ⟨c % 4, slot_lt c⟩
theorem slotOf_add (c : ℕ) : slotOf (c + 4) = slotOf c := Fin.ext (Nat.add_mod_right c 4)

/-- The gathers' semaphore of a slot. -/
abbrev gSem (s : Fin 4) : DmaSem sig := semV cc0_scratch3 s.val (slotOk s)
/-- The write-outs' semaphore of a slot. -/
abbrev sSem (s : Fin 4) : DmaSem sig := semV cc0_scratch4 s.val (slotOk s)

abbrev tabPts (s : ℕ) : sProp 𝕄 := tLoc d ↦{tabShare L s} fT
abbrev lstPts (s : ℕ) : sProp 𝕄 := lLoc d L ↦{lstShare s} fl

/-- What a gather of eighty rows counts on its semaphore. -/
abbrev credG : ℕ := cc0_scratch1.dmaCredit S80x128 .f32
/-- What a write-out of forty rows counts on its semaphore. -/
abbrev credS : ℕ := main_v8_scv.dmaCredit S40x128 .f32

/-! ## The gathers -/

/-- A slot whose gather of chunk `c` is under way. -/
def gathering (s : Fin 4) (c : Fin 250) : sProp 𝕄 :=
  iprop(Transfers.Flight countersEmb (thr d L) (.dma (gSem s)) (default : HIx 1) credG
      iprop((gLoc d L ↦[gSlot s.val]{fullShare} gathered fT fl c) ∗ tabPts d L fT s.val ∗ (lLoc d L ↦[lRow c.val]{lstShare s.val} fl))
    ∗ (lLoc d L ↦[Finset.univ \ lRow c.val]{lstShare s.val} fl))

/-- A slot with no gather under way. -/
def gatherIdle (s : Fin 4) : sProp 𝕄 :=
  iprop(semVal (thr d L, .dma (gSem s)) 0 ∗ (∃ f, gLoc d L ↦[gSlot s.val]{fullShare} f) ∗ tabPts d L fT s.val ∗ lstPts d L fl s.val)

/-- The slot that chunk `c` uses, as the loop finds it: its gather under way if there is such a chunk. -/
def gatherSt (s : Fin 4) (c : ℕ) : sProp 𝕄 :=
  if h : c < 250 then gathering d L fT fl s ⟨c, h⟩ else gatherIdle d L fT fl s

theorem set_tabVAll : tabVAll.view.set = Finset.univ := by
  show (tabM.view.slice _).set = _
  rw [View.set_slice_whole]
  ext x
  rw [Rect.mem_set_unit]
  refine ⟨fun _ => Finset.mem_univ _, fun _ a => ⟨?_, ?_⟩⟩
  · match a with
    | 0 => exact Nat.zero_le _
    | 1 => exact Nat.zero_le _
  · match a with
    | 0 => exact lt_of_lt_of_eq (x 0).isLt (Nat.zero_add _).symm
    | 1 => exact lt_of_lt_of_eq (x 1).isLt (Nat.zero_add _).symm

theorem emb_tabVAll (x : S20000x128.Idx) : tabVAll.view.emb x = x := by
  show (Rect.unit (s := S20000x128) ![0, 0] S20000x128.size inb_S20000x128_S20000x128_0_0).emb x = x
  funext a
  apply Fin.ext
  match a with
  | 0 => show 0 + 1 * (x 0).val = (x 0).val; omega
  | 1 => show 0 + 1 * (x 1).val = (x 1).val; omega

theorem read_lstV (c : ℕ) (h) (hc : c < 250) (q : Fin 80) : (lstV c h).view.read (Elt F) fl (ix1 q : S80.Idx) = fl (ix2 (⟨c, hc⟩ : Fin 250) q) := by
  rw [View.read_apply, cast_eq, emb_lstV c h hc q]

theorem lst_inb (hfl : ∀ x, (fl x).toNat < 20000) (c : ℕ) (h) (hc : c < 250) (x : S80.Idx) :
    ((lstV c h).view.read (Elt F) fl x).toNat < S20000x128.size gathers_S20000x128_S80x128.axis := by
  obtain ⟨q, rfl⟩ : ∃ q : Fin 80, x = ix1 q := ⟨x 0, eq_ix1 x⟩
  rw [read_lstV fl c h hc]
  exact hfl _

theorem rowMajor_symm80 (p : Fin 80) (h : S80.numel = 80) : S80.rowMajor.symm (p.cast h.symm) = (ix1 p : S80.Idx) := by
  rw [Equiv.symm_apply_eq]
  apply Fin.ext
  rw [Shape.rowMajor_val_one]
  rfl

/-- A gather lands the chunk's rows in its slot. -/
theorem gather_lands (hfl : ∀ x, (fl x).toNat < 20000) (s : Fin 4) (c : Fin 250) (h) (h') (hin) (fd : S4x80x128.Idx → Elt F .f32) :
    ∀ x ∈ gSlot s.val, (gatV s.val h).view.write (Elt F) fd
        (SparseCore.gatherPayload gathers_S20000x128_S80x128 (tabVAll.view.read (Elt F) fT)
          (SparseCore.rows ((lstV c.val h').view.read (Elt F) fl) (rfl : S80.numel = S80x128.size gathers_S20000x128_S80x128.axis') hin)) Finset.univ x
      = gathered fT fl c x := by
  intro x hx
  have hx0 := mem_gSlot.mp hx
  obtain ⟨p, q, rfl⟩ : ∃ p q, x = ix3 (⟨s.val, s.isLt⟩ : Fin 4) p q := ⟨x 1, x 2, by rw [eq_ix3 x]; congr 1; exact Fin.ext hx0⟩
  rw [← emb_gatV s.val h s.isLt p q, View.write_emb_of_mem _ _ (Finset.mem_univ _), cast_eq, emb_gatV s.val h s.isLt p q]
  unfold SparseCore.gatherPayload gathered
  rw [View.read_apply, cast_eq, emb_tabVAll]
  congr 1
  funext a
  match a with
  | 0 =>
    refine (Shape.Gathers.idx_axis gathers_S20000x128_S80x128 _ _).trans ?_
    apply Fin.ext
    show ((lstV c.val h').view.read (Elt F) fl (S80.rowMajor.symm (p.cast _))).toNat = (fl (ix2 c p)).toNat % 20000
    rw [rowMajor_symm80 p rfl, read_lstV fl c.val h' c.isLt, Nat.mod_eq_of_lt (hfl _)]
  | 1 => exact Fin.ext (Shape.Gathers.idx_of_ne gathers_S20000x128_S80x128 _ _ 1 (by decide))

theorem credG_sum (s : Fin 4) (h) : ∑ j, ((gatV s.val h).slice (S80x128.rowRect gathers_S20000x128_S80x128.axis' j) (S80x128.stride_rowRect gathers_S20000x128_S80x128.axis' j)).view.dmaCredit = credG := by
  have : ∑ j : Fin (S80x128.size gathers_S20000x128_S80x128.axis'), cc0_scratch1.dmaCredit (S80x128.rowShape gathers_S20000x128_S80x128.axis') .f32 = credG := by decide
  exact this

/-- Starting the gather of chunk `c` in an idle slot. -/
theorem gather_start (hfl : ∀ x, (fl x).toNat < 20000) (s : Fin 4) (c : ℕ) (hc : c < 250) (h) (h') (hs) {α : Type} {k : PUnit → TP F L α} {Q : α → sProp 𝕄} {h1 h2 h3 h4} :
    gatherIdle d L fT fl s
      ⊢ iprop((gatherSt d L fT fl s c -∗ runs d L (k ⟨⟩) Q)
        -∗ runs d L (SparseCore.enqueueIndirectGather rfl tabVAll (gatV s.val h) gathers_S20000x128_S80x128 (lstV c h') rfl (semV cc0_scratch3 s.val hs) h1 h2 h3 h4 >>= k) Q) := by
  unfold gatherIdle
  iintro ⟨Hv, ⟨%f, Hg⟩, Ht, Hl⟩ Hk
  ihave Hl := (pointsTo_split_subset (ℓ := lLoc d L) (q := lstShare s.val) (f := fl) (S := Finset.univ) (Finset.subset_univ (lRow c))).1 $$ Hl
  icases Hl with ⟨Hl, Hlr⟩
  iapply (SparseCore.wp_indirectGatherLocal countersEmb 𝒱₀ (thr d L) none (hg := gathers_S20000x128_S80x128) (default : HIx 1)
      credG (credG_sum s h) (by decide) (lst_inb fl hfl c h' hc) (src := tabVAll) (q := tabShare L s.val) (qo := lstShare s.val) (fs := fT) (fd := f)) $$ [Hg Ht Hl Hv]
  · rw [set_tabVAll, set_gatV, set_lstV]
    isplitl [Ht]; · iexact Ht
    isplitl [Hg]; · iexact Hg
    isplitl [Hl]; · iexact Hl
    iexact Hv
  rw [set_tabVAll, set_gatV, set_lstV]
  iintro Hfl
  iapply Hk
  unfold gatherSt gathering
  rw [dif_pos hc]
  isplitl [Hfl]
  · have hland := fun hin => pointsTo_congr (ℓ := gLoc d L) (q := fullShare) (Ix := HIx 1) (Name := ℕ) (U := UU) (Lvl := ℕ) (gather_lands fT fl hfl s ⟨c, hc⟩ h h' hin f)
    iapply (Transfers.Flight_mono countersEmb (thr d L) (D := iprop((gLoc d L ↦[gSlot s.val]{fullShare} (gatV s.val h).view.write (Elt F) f
        (SparseCore.gatherPayload gathers_S20000x128_S80x128 (tabVAll.view.read (Elt F) fT)
          (SparseCore.rows ((lstV c h').view.read (Elt F) fl) (rfl : S80.numel = S80x128.size gathers_S20000x128_S80x128.axis') (lst_inb fl hfl c h' hc))) Finset.univ)
        ∗ tabPts d L fT s.val ∗ (lLoc d L ↦[lRow c]{lstShare s.val} fl)))
      (BI.sep_mono (Entails.of_eq (hland _)) (BI.Entails.refl _)))
    iexact Hfl
  · iexact Hlr

end Cert.Proof.Unpool

end
-- ==== Proof.Half.lean ====
/-
  One chunk of the edge loop, from the wait for its gathered rows to the start of its write-out, over the two rings'
  slots.
-/
module

public import proofs.«01_k».proof.Proof.Ring

@[expose] public section

noncomputable section

namespace Cert.Proof.Unpool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (fT : S20000x128.Idx → Elt F .f32) (fI : S32x250x80.Idx → Elt F .i32)

/-- The tile's list. -/
abbrev lst (L : grid0.Coords) (fI : S32x250x80.Idx → Elt F .i32) : S250x80.Idx → Elt F .i32 := listOf fI ⟨wid L, wid_lt L⟩

/-! ## The write-outs -/

/-- The rows that chunk `c`'s write-out lands, at their final contents. -/
abbrev edgePts (c : ℕ) : sProp 𝕄 := oLoc d ↦[oRows (outRow (wid L) c) 40]{fullShare} outVal fT fI

/-- A slot whose write-out of chunk `c` is under way. -/
def storing (s : Fin 4) (c : ℕ) : sProp 𝕄 :=
  Transfers.Flight countersEmb (thr d L) (.dma (sSem s)) (default : HIx 1) credS
      iprop(edgePts d L fT fI c ∗ ∃ f, aLoc d L ↦[aSlot s.val]{fullShare} f)

/-- A slot with no write-out under way. -/
def storeIdle (s : Fin 4) : sProp 𝕄 :=
  iprop(semVal (thr d L, .dma (sSem s)) 0 ∗ ∃ f, aLoc d L ↦[aSlot s.val]{fullShare} f)

/-- The slot that chunk `c` uses, as the loop finds it: the write-out four chunks earlier under way if there is one. -/
def storeSt (s : Fin 4) (c : ℕ) : sProp 𝕄 := if 4 ≤ c then storing d L fT fI s (c - 4) else storeIdle d L s

theorem storeSt_ge (s : Fin 4) (c : ℕ) (h : 4 ≤ c) : storeSt d L fT fI s c = storing d L fT fI s (c - 4) := if_pos h
theorem storeSt_lt (s : Fin 4) (c : ℕ) (h : ¬ 4 ≤ c) : storeSt d L fT fI s c = storeIdle d L s := if_neg h

/-- A chunk's averaged rows are the output's rows. -/
theorem outAt_edge (w : Fin 32) (c : Fin 250) (p : Fin 40) (q : Fin 128) (r : Fin 340000) (hr : r.val = outRow w.val c.val + p.val) :
    outAt fT fI r q = avgAt fT (listOf fI w) c p q := by
  have hw := w.isLt
  have hcl := c.isLt
  have hpl := p.isLt
  unfold outRow at hr
  unfold outAt
  have h1 : r.val % 170000 = 10000 + w.val * 5000 + c.val / 2 * 40 + p.val := by omega
  have h2 : r.val / 170000 = c.val % 2 := by omega
  rw [dif_neg (by omega)]
  have key : ∀ (w' : Fin 32) (c' : Fin 250) (p' : Fin 40), w' = w → c' = c → p' = p → avgAt fT (listOf fI w') c' p' q = avgAt fT (listOf fI w) c p q := by
    rintro _ _ _ rfl rfl rfl; rfl
  refine key _ _ _ (Fin.ext ?_) (Fin.ext ?_) (Fin.ext ?_)
  · show (r.val % 170000 - 10000) / 5000 = w.val
    omega
  · show 2 * ((r.val % 170000 - 10000) % 5000 / 40) + r.val / 170000 = c.val
    omega
  · show (r.val % 170000 - 10000) % 40 = p.val
    omega

/-- A write-out lands the chunk's rows in the output. -/
theorem edge_lands (c : Fin 250) (s : Fin 4) (h) (h')
    (f0 : S340000x128.Idx → Elt F .f32) :
    ∀ x ∈ oRows (outRow (wid L) c.val) 40, (outV40 (outRow (wid L) c.val) h).view.write (Elt F) f0 ((avgV s.val h').view.read (Elt F) (averaged fT (lst L fI) c)) Finset.univ x
      = outVal fT fI x := by
  intro x hx
  rw [← set_outV40 _ h] at hx
  obtain ⟨j, -, rfl⟩ := Finset.mem_map.mp hx
  obtain ⟨p, q, rfl⟩ : ∃ (p : Fin 40) (q : Fin 128), j = ix2 p q := ⟨j 0, j 1, eq_ix2 j⟩
  rw [View.write_emb_of_mem _ _ (Finset.mem_univ _), cast_eq, View.read_apply, cast_eq, emb_avgV s.val h' s.isLt p q]
  have hlt : outRow (wid L) c.val + p.val < 340000 := by have := outRow_le (wid L) c.val (wid_lt L) c.isLt; have := p.isLt; omega
  rw [show (outV40 (outRow (wid L) c.val) h).view.emb (ix2 p q) = (ix2 (⟨outRow (wid L) c.val + p.val, hlt⟩ : Fin 340000) q : S340000x128.Idx) from ?_]
  · exact (outAt_edge fT fI ⟨wid L, wid_lt L⟩ c p q _ rfl).symm
  funext a
  apply Fin.ext
  match a with
  | 0 => show outRow (wid L) c.val + 1 * p.val = outRow (wid L) c.val + p.val; omega
  | 1 => show 0 + 1 * q.val = q.val; omega

/-- A chunk's write-out. -/
theorem store_wp (c : ℕ) (hc : c < 250)
    (f0 : S340000x128.Idx → Elt F .f32) :
    iprop(semVal (thr d L, .dma (sSem (slotOf c))) 0 ∗ (aLoc d L ↦[aSlot (c % 4)]{fullShare} averaged fT (lst L fI) ⟨c, hc⟩)
        ∗ (oLoc d ↦[oRows (outRow (wid L) c) 40]{fullShare} f0))
      ⊢ runs d L (storeProg (F := F) L outM avgM cc0_scratch4 (sOffsAt (wid L) c (wid_lt L) hc)) fun _ => storeSt d L fT fI (slotOf c) (c + 4) := by
  unfold storeProg
  iintro ⟨Hv, Ha, Ho⟩
  have hset := set_outV40 (outRow (wid L) c) (sOffsAt (wid L) c (wid_lt L) hc).hso
  have hset' := set_avgV (c % 4) (sOffsAt (wid L) c (wid_lt L) hc).hsr
  iapply (Transfers.wp_dmaLocal countersEmb 𝒱₀ (thr d L) none (default : HIx 1) credS (src := avgV (c % 4) (sOffsAt (wid L) c (wid_lt L) hc).hsr)
    (dst := outV40 (outRow (wid L) c) (sOffsAt (wid L) c (wid_lt L) hc).hso) (via := .same) (sm := .dma (sSem (slotOf c))) (q := fullShare)
    (fs := averaged fT (lst L fI) ⟨c, hc⟩) (fd := f0) (Sd := oRows (outRow (wid L) c) 40) rfl (by decide) (hset ▸ Finset.Subset.refl _)) $$ [Hv Ha Ho]
  · rw [hset']
    isplitl [Ha]; · iexact Ha
    isplitl [Ho]; · iexact Ho
    iexact Hv
  rw [hset']
  iintro Hfl
  rw [wp_ret]
  imodintro
  rw [storeSt_ge d L fT fI _ _ (by omega), Nat.add_sub_cancel]
  unfold storing
  have hland := pointsTo_congr (ℓ := oLoc d) (q := fullShare) (Ix := HIx 1) (Name := ℕ) (U := UU) (Lvl := ℕ)
    (edge_lands L fT fI ⟨c, hc⟩ (slotOf c) (sOffsAt (wid L) c (wid_lt L) hc).hso (sOffsAt (wid L) c (wid_lt L) hc).hsr f0)
  have hex : (aLoc d L ↦[aSlot (c % 4)]{fullShare} averaged fT (lst L fI) ⟨c, hc⟩ : sProp 𝕄) ⊢ iprop(∃ f, aLoc d L ↦[aSlot (slotOf c).val]{fullShare} f) := by
    iintro H; iexists _; iexact H
  iapply (Transfers.Flight_mono countersEmb (thr d L) (D := iprop((oLoc d ↦[oRows (outRow (wid L) c) 40]{fullShare}
      (outV40 (outRow (wid L) c) (sOffsAt (wid L) c (wid_lt L) hc).hso).view.write (Elt F) f0
        ((avgV (slotOf c).val (sOffsAt (wid L) c (wid_lt L) hc).hsr).view.read (Elt F) (averaged fT (lst L fI) ⟨c, hc⟩)) Finset.univ)
      ∗ (aLoc d L ↦[aSlot (c % 4)]{fullShare} averaged fT (lst L fI) ⟨c, hc⟩)))
    (BI.sep_mono (Entails.of_eq hland) hex))
  iexact Hfl

/-- What follows the two waits: the averaging, and the next gather. -/
def tailProg {α : Type} (H : Offs) (r : α) : TP F L α := do
  Scf.Loop.for k0_t2_loop k0_t2_ok ⟨⟩ (fun t _ => rowProg L gatM avgM (H.lanes t))
  if h : H.cg = 1#1 then do
    SparseCore.enqueueIndirectGather rfl tabVAll ((gatM.slice (Rect.unit (s := S4x80x128) H.nr S1x80x128.size (H.hnr h)) (fun _ => rfl)).squeeze S80x128 squeezes_S1x80x128_S80x128)
      gathers_S20000x128_S80x128 ((lstM.slice (Rect.unit (s := S250x80) H.nl S1x80.size (H.hnl h)) (fun _ => rfl)).squeeze S80 squeezes_S1x80_S80) rfl
      ((cc0_scratch3.slice (Rect.unit (s := S4) H.ns S1.size (H.hns h))).squeeze S_ squeezes_S1_S_).sem (View.wordExact_bits rfl) rfl (Or.inl rfl)
    pure r
  else pure r

theorem halfProg_eq {α : Type} (H : Offs) (r : α) :
    halfProg (F := F) L tabM outM lstM gatM avgM cc0_scratch3 cc0_scratch4 H r
      = .op (.waitDma2 ((cc0_scratch3.slice (Rect.unit (s := S4) H.gs S1.size H.hgs)).squeeze S_ squeezes_S1_S_).sem tabVAll
          ((gatM.slice (Rect.unit (s := S4x80x128) H.gr S1x80x128.size H.hgr) (fun _ => rfl)).squeeze S80x128 squeezes_S1x80x128_S80x128)
          (View.wordExact_bits rfl) ((View.wordExact_bits rfl).reshape _ _)) fun _ =>
        if h : H.cw = 1#1 then
          .op (.waitDma2 ((cc0_scratch4.slice (Rect.unit (s := S4) H.ws S1.size (H.hws h))).squeeze S_ squeezes_S1_S_).sem
            ((avgM.slice (Rect.unit (s := S4x40x128) H.wr S1x40x128.size (H.hwr h)) (fun _ => rfl)).squeeze S40x128 squeezes_S1x40x128_S40x128)
            (outV40 0 inb_S340000x128_S40x128_0_0) ((View.wordExact_bits rfl).reshape _ _) (View.wordExact_bits rfl)) fun _ => tailProg L H r
        else tailProg L H r := rfl

theorem gatherSt_lt (fl : S250x80.Idx → Elt F .i32) (s : Fin 4) (c : ℕ) (h : c < 250) : gatherSt d L fT fl s c = gathering d L fT fl s ⟨c, h⟩ := dif_pos h
theorem gatherSt_ge (fl : S250x80.Idx → Elt F .i32) (s : Fin 4) (c : ℕ) (h : ¬ c < 250) : gatherSt d L fT fl s c = gatherIdle d L fT fl s := dif_neg h

/-- A program that is over. -/
theorem ret_wp {α : Type} {a : α} {Q : α → sProp 𝕄} : Q a ⊢ runs d L (Prog.ret a) Q := by
  unfold runs
  rw [wp_ret]
  iintro H
  imodintro
  iexact H

/-- The averaging of a chunk, and the start of the gather four chunks on. -/
theorem tail_wp (hfI : ∀ x, (fI x).toNat < 20000) (c : ℕ) (hc : c < 250) {α : Type} (r : α) :
    iprop(((gLoc d L ↦[gSlot (c % 4)]{fullShare} gathered fT (lst L fI) ⟨c, hc⟩) ∗ ∃ f, aLoc d L ↦[aSlot (c % 4)]{fullShare} f)
        ∗ tabPts d L fT (c % 4) ∗ lstPts d L (lst L fI) (c % 4) ∗ semVal (thr d L, .dma (gSem (slotOf c))) 0)
      ⊢ runs d L (tailProg (F := F) L (offsAt c) r) fun _ =>
        iprop(gatherSt d L fT (lst L fI) (slotOf c) (c + 4) ∗ (aLoc d L ↦[aSlot (c % 4)]{fullShare} averaged fT (lst L fI) ⟨c, hc⟩)) := by
  unfold tailProg runs
  rw [wp_bind]
  iintro ⟨Hb, Ht, Hl, Hv⟩
  ihave Hw := (rows_wp d L fT (lst L fI) ⟨c, hc⟩ (c % 4) (slot_lt c)) $$ Hb
  iapply (wp_wand frame (wpE (defs₀ (F := F)) 𝒱₀ (thr d L) none)) $$ Hw
  iintro %_ ⟨Hg, Ha⟩
  by_cases h4 : c + 4 < 250
  · have hcg : (offsAt c).cg = 1#1 := if_pos h4
    rw [dif_pos hcg]
    ihave Hi := (show iprop(semVal (thr d L, .dma (gSem (slotOf c))) 0 ∗ (gLoc d L ↦[gSlot (c % 4)]{fullShare} gathered fT (lst L fI) ⟨c, hc⟩)
        ∗ tabPts d L fT (c % 4) ∗ lstPts d L (lst L fI) (c % 4)) ⊢ gatherIdle d L fT (lst L fI) (slotOf c) from by
      unfold gatherIdle
      iintro ⟨Hv, Hg, Ht, Hl⟩
      isplitl [Hv]; · iexact Hv
      isplitl [Hg]; · iexists _; iexact Hg
      isplitl [Ht]; · iexact Ht
      iexact Hl) $$ [Hv Hg Ht Hl]
    · isplitl [Hv]; · iexact Hv
      isplitl [Hg]; · iexact Hg
      isplitl [Ht]; · iexact Ht
      iexact Hl
    iapply (gather_start d L fT (lst L fI) (fun x => hfI _) (slotOf c) (c + 4) h4 ((offsAt c).hnr hcg) ((offsAt c).hnl hcg) ((offsAt c).hns hcg)
      (k := fun _ => Prog.ret r)) $$ Hi
    iintro Hst
    iapply (ret_wp d L)
    isplitl [Hst]; · iexact Hst
    iexact Ha
  · have hcg : ¬ (offsAt c).cg = 1#1 := by
      show ¬ (if c + 4 < 250 then 1#1 else 0#1) = 1#1
      rw [if_neg h4]; decide
    rw [dif_neg hcg]
    iapply (ret_wp d L)
    rw [gatherSt_ge d L fT _ _ _ h4]
    unfold gatherIdle
    isplitr [Ha]
    · isplitl [Hv]; · iexact Hv
      isplitl [Hg]; · iexists _; iexact Hg
      isplitl [Ht]; · iexact Ht
      iexact Hl
    · iexact Ha

/-- One chunk, from its gather's wait to the next gather's start in its slot. -/
theorem half_wp (hfI : ∀ x, (fI x).toNat < 20000) (c : ℕ) (hc : c < 250) {α : Type} (r : α) (O : CellTallies nD τ sig (HIx 1)) (W : Waits sig (HIx 1)) :
    iprop(gatherSt d L fT (lst L fI) (slotOf c) c ∗ storeSt d L fT fI (slotOf c) c ∗ owes (thr d L) O W ∗ Transfers.MayWaits (thr d L) (default : HIx 1) O)
      ⊢ runs d L (halfProg (F := F) L tabM outM lstM gatM avgM cc0_scratch3 cc0_scratch4 (offsAt c) r) fun _ =>
        iprop((gatherSt d L fT (lst L fI) (slotOf c) (c + 4) ∗ (aLoc d L ↦[aSlot (c % 4)]{fullShare} averaged fT (lst L fI) ⟨c, hc⟩))
          ∗ semVal (thr d L, .dma (sSem (slotOf c))) 0
          ∗ (if 4 ≤ c then edgePts d L fT fI (c - 4) else iprop(emp))
          ∗ ∃ W', ⌜∀ p ∈ W', p ∈ W ∨ p.2 = none⌝ ∗ owes (thr d L) O W') := by
  rw [halfProg_eq, gatherSt_lt d L fT _ _ c hc]
  unfold gathering
  by_cases h4 : 4 ≤ c
  · have hcw : (offsAt c).cw = 1#1 := if_pos h4
    rw [dif_pos hcw, if_pos h4, storeSt_ge d L fT fI _ _ h4]
    unfold storing
    iintro ⟨⟨Hfl, Hlr⟩, Hs, HO, #Hmw⟩
    iapply (Transfers.wp_waitLocalO countersEmb 𝒱₀ (thr d L) none (default : HIx 1) (dstw := gatV (c % 4) (offsAt c).hgr) (sem := gSem (slotOf c)) (N := credG) rfl) $$ [Hfl HO]
    · isplitl [Hfl]; · iexact Hfl
      isplitl [HO]; · iexact HO
      iapply (Transfers.MayWaits.elim (SemLoc.dma (gSem (slotOf c)))) $$ Hmw
    iintro ⟨⟨Hg, Ht, Hl⟩, Hv, HO⟩
    ihave Hl := (pointsTo_split_subset (ℓ := lLoc d L) (q := lstShare (slotOf c).val) (f := lst L fI) (S := Finset.univ) (Finset.subset_univ (lRow c))).2 $$ [Hl Hlr]
    · isplitl [Hl]; · iexact Hl
      iexact Hlr
    iapply (Transfers.wp_waitLocalO countersEmb 𝒱₀ (thr d L) none (default : HIx 1) (dstw := outV40 0 inb_S340000x128_S40x128_0_0) (sem := sSem (slotOf c)) (N := credS) rfl) $$ [Hs HO]
    · isplitl [Hs]; · iexact Hs
      isplitl [HO]; · iexact HO
      iapply (Transfers.MayWaits.elim (SemLoc.dma (sSem (slotOf c)))) $$ Hmw
    iintro ⟨⟨He, Ha⟩, Hsv, HO⟩
    ihave Hw := (tail_wp d L fT fI hfI c hc r) $$ [Hg Ha Ht Hl Hv]
    · isplitl [Hg Ha]
      · isplitl [Hg]; · iexact Hg
        iexact Ha
      isplitl [Ht]; · iexact Ht
      isplitl [Hl]; · iexact Hl
      iexact Hv
    iapply (wp_wand frame (wpE (defs₀ (F := F)) 𝒱₀ (thr d L) none)) $$ Hw
    iintro %_ Hw
    isplitl [Hw]; · iexact Hw
    isplitl [Hsv]; · iexact Hsv
    isplitl [He]; · iexact He
    iexists _; isplitr; swap
    · iexact HO
    · ipureintro
      intro p hp
      rcases Finset.mem_insert.mp hp with rfl | hp
      · exact .inr rfl
      rcases Finset.mem_insert.mp hp with rfl | hp
      · exact .inr rfl
      exact .inl hp
  · have hcw : ¬ (offsAt c).cw = 1#1 := by
      show ¬ (if 4 ≤ c then 1#1 else 0#1) = 1#1
      rw [if_neg h4]; decide
    rw [dif_neg hcw, if_neg h4, storeSt_lt d L fT fI _ _ h4]
    unfold storeIdle
    iintro ⟨⟨Hfl, Hlr⟩, ⟨Hsv, Ha⟩, HO, #Hmw⟩
    iapply (Transfers.wp_waitLocalO countersEmb 𝒱₀ (thr d L) none (default : HIx 1) (dstw := gatV (c % 4) (offsAt c).hgr) (sem := gSem (slotOf c)) (N := credG) rfl) $$ [Hfl HO]
    · isplitl [Hfl]; · iexact Hfl
      isplitl [HO]; · iexact HO
      iapply (Transfers.MayWaits.elim (SemLoc.dma (gSem (slotOf c)))) $$ Hmw
    iintro ⟨⟨Hg, Ht, Hl⟩, Hv, HO⟩
    ihave Hl := (pointsTo_split_subset (ℓ := lLoc d L) (q := lstShare (slotOf c).val) (f := lst L fI) (S := Finset.univ) (Finset.subset_univ (lRow c))).2 $$ [Hl Hlr]
    · isplitl [Hl]; · iexact Hl
      iexact Hlr
    ihave Hw := (tail_wp d L fT fI hfI c hc r) $$ [Hg Ha Ht Hl Hv]
    · isplitl [Hg Ha]
      · isplitl [Hg]; · iexact Hg
        iexact Ha
      isplitl [Ht]; · iexact Ht
      isplitl [Hl]; · iexact Hl
      iexact Hv
    iapply (wp_wand frame (wpE (defs₀ (F := F)) 𝒱₀ (thr d L) none)) $$ Hw
    iintro %_ Hw
    isplitl [Hw]; · iexact Hw
    isplitl [Hsv]; · iexact Hsv
    isplitr; · iempintro
    iexists _; isplitr; swap
    · iexact HO
    · ipureintro
      intro p hp
      rcases Finset.mem_insert.mp hp with rfl | hp
      · exact .inr rfl
      exact .inl hp

end Cert.Proof.Unpool

end
-- ==== Proof.Loop.lean ====
/-
  The edge loop: its invariant before chunk `c`, the two programs of a chunk, a trip, and the whole loop.
-/
module

public import proofs.«01_k».proof.Proof.Half

@[expose] public section

noncomputable section

namespace Cert.Proof.Unpool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (fT : S20000x128.Idx → Elt F .f32) (fI : S32x250x80.Idx → Elt F .i32) (f0 : S340000x128.Idx → Elt F .f32)

/-- Some waits more than `W`, each of them on a transfer of the tile's own. -/
def owing (O : CellTallies nD τ sig (HIx 1)) (W : Waits sig (HIx 1)) : sProp 𝕄 :=
  iprop(∃ W', ⌜∀ p ∈ W', p ∈ W ∨ p.2 = none⌝ ∗ owes (thr d L) O W')

theorem owing_of (O : CellTallies nD τ sig (HIx 1)) (W W' : Waits sig (HIx 1)) (h : ∀ p ∈ W', p ∈ W ∨ p.2 = none) :
    (iprop(∃ W'', ⌜∀ p ∈ W'', p ∈ W' ∨ p.2 = none⌝ ∗ owes (thr d L) O W'') : sProp 𝕄) ⊢ owing d L O W := by
  unfold owing
  iintro ⟨%W'', %h'', H⟩
  iexists W''
  isplitr
  · ipureintro
    exact fun p hp => (h'' p hp).elim (h p) .inr
  · iexact H

theorem owing_wait (O : CellTallies nD τ sig (HIx 1)) (W W' : Waits sig (HIx 1)) (h : ∀ p ∈ W', p ∈ W ∨ p.2 = none) (sm : SemLoc sig) :
    (owes (thr d L) O (insert (sm, (default : HIx 1)) W') : sProp 𝕄) ⊢ owing d L O W := by
  unfold owing
  iintro H
  iexists _
  isplitr; swap
  · iexact H
  · ipureintro
    intro p hp
    rcases Finset.mem_insert.mp hp with rfl | hp
    · exact .inr rfl
    · exact h p hp

/-- One slot of each ring, as chunk `c` finds it. -/
abbrev slotSt (c : ℕ) : sProp 𝕄 := iprop(gatherSt d L fT (lst L fI) (slotOf c) c ∗ storeSt d L fT fI (slotOf c) c)

/-- The rows of the chunks still to do, as they were found. -/
abbrev undone (c : ℕ) : sProp 𝕄 := bigSep (Finset.Ico c 250) fun c => oLoc d ↦[oRows (outRow (wid L) c) 40]{fullShare} f0
/-- The rows of the chunks that were waited for. -/
abbrev finished (c : ℕ) : sProp 𝕄 := bigSep (Finset.range (c - 4)) fun c => edgePts d L fT fI c

/-- Before chunk `c`. -/
def chunkInv (O : CellTallies nD τ sig (HIx 1)) (W : Waits sig (HIx 1)) (c : ℕ) : sProp 𝕄 :=
  iprop((slotSt d L fT fI c ∗ slotSt d L fT fI (c + 1) ∗ slotSt d L fT fI (c + 2) ∗ slotSt d L fT fI (c + 3))
    ∗ (undone d L f0 c ∗ finished d L fT fI c) ∗ owing d L O W ∗ Transfers.MayWaits (thr d L) (default : HIx 1) O)

/-- Between chunk `c`'s averaging and its write-out. -/
def midInv (O : CellTallies nD τ sig (HIx 1)) (W : Waits sig (HIx 1)) (c : ℕ) (hc : c < 250) : sProp 𝕄 :=
  iprop(((gatherSt d L fT (lst L fI) (slotOf c) (c + 4) ∗ semVal (thr d L, .dma (sSem (slotOf c))) 0 ∗ (aLoc d L ↦[aSlot (c % 4)]{fullShare} averaged fT (lst L fI) ⟨c, hc⟩)
      ∗ (oLoc d ↦[oRows (outRow (wid L) c) 40]{fullShare} f0))
    ∗ slotSt d L fT fI (c + 1) ∗ slotSt d L fT fI (c + 2) ∗ slotSt d L fT fI (c + 3))
    ∗ (undone d L f0 (c + 1) ∗ finished d L fT fI (c + 1)) ∗ owing d L O W ∗ Transfers.MayWaits (thr d L) (default : HIx 1) O)

theorem undone_eq (c : ℕ) (hc : c < 250) :
    (undone d L f0 c : sProp 𝕄) = iprop((oLoc d ↦[oRows (outRow (wid L) c) 40]{fullShare} f0) ∗ undone d L f0 (c + 1)) := by
  unfold undone
  rw [show Finset.Ico c 250 = insert c (Finset.Ico (c + 1) 250) from by
    ext x; simp only [Finset.mem_insert, Finset.mem_Ico]; omega, SparseCore.bigSep_insert' (by simp)]

theorem finished_add (c : ℕ) :
    iprop((if 4 ≤ c then edgePts d L fT fI (c - 4) else iprop(emp)) ∗ finished d L fT fI c) ⊢ (finished d L fT fI (c + 1) : sProp 𝕄) := by
  unfold finished
  by_cases h : 4 ≤ c
  · rw [if_pos h, show c + 1 - 4 = c - 4 + 1 from by omega, Finset.range_add_one, SparseCore.bigSep_insert' Finset.notMem_range_self]
  · rw [if_neg h, show c + 1 - 4 = c - 4 from by omega]
    iintro ⟨-, H⟩
    iexact H

theorem half_step (hfI : ∀ x, (fI x).toNat < 20000) (c : ℕ) (hc : c < 250) {α : Type} (r : α) (O : CellTallies nD τ sig (HIx 1)) (W : Waits sig (HIx 1)) :
    chunkInv d L fT fI f0 O W c
      ⊢ runs d L (halfProg (F := F) L tabM outM lstM gatM avgM cc0_scratch3 cc0_scratch4 (offsAt c) r) fun _ => midInv d L fT fI f0 O W c hc := by
  unfold chunkInv midInv runs
  rw [undone_eq d L f0 c hc]
  conv_lhs => unfold owing
  iintro ⟨⟨⟨Hg, Hs⟩, H1, H2, H3⟩, ⟨⟨Ho, Hu⟩, Hf⟩, ⟨%W', %hW, HO⟩, #Hmw⟩
  ihave Hw := (half_wp d L fT fI hfI c hc r O W') $$ [Hg Hs HO]
  · isplitl [Hg]; · iexact Hg
    isplitl [Hs]; · iexact Hs
    isplitl [HO]; · iexact HO
    iexact Hmw
  iapply (wp_wand frame (wpE (defs₀ (F := F)) 𝒱₀ (thr d L) none)) $$ Hw
  iintro %_ ⟨⟨Hg, Ha⟩, Hv, He, HO⟩
  isplitl [Hg Ha Hv Ho H1 H2 H3]
  · isplitl [Hg Ha Hv Ho]
    · isplitl [Hg]; · iexact Hg
      isplitl [Hv]; · iexact Hv
      isplitl [Ha]; · iexact Ha
      iexact Ho
    isplitl [H1]; · iexact H1
    isplitl [H2]; · iexact H2
    iexact H3
  isplitl [Hu He Hf]
  · isplitl [Hu]; · iexact Hu
    iapply (finished_add d L fT fI c)
    isplitl [He]; · iexact He
    iexact Hf
  isplitl [HO]
  · iapply (owing_of d L O W W' hW)
    iexact HO
  iexact Hmw

theorem store_step (c : ℕ) (hc : c < 250) (O : CellTallies nD τ sig (HIx 1)) (W : Waits sig (HIx 1)) :
    midInv d L fT fI f0 O W c hc
      ⊢ runs d L (storeProg (F := F) L outM avgM cc0_scratch4 (sOffsAt (wid L) c (wid_lt L) hc)) fun _ => chunkInv d L fT fI f0 O W (c + 1) := by
  have e : slotSt d L fT fI (c + 1 + 3) = iprop(gatherSt d L fT (lst L fI) (slotOf c) (c + 4) ∗ storeSt d L fT fI (slotOf c) (c + 4)) := by
    rw [show c + 1 + 3 = c + 4 from by omega]; unfold slotSt; rw [slotOf_add]
  unfold midInv chunkInv runs
  rw [e]
  iintro ⟨⟨⟨Hg, Hv, Ha, Ho⟩, H1, H2, H3⟩, Hp, HO, Hmw⟩
  ihave Hw := (store_wp d L fT fI c hc f0) $$ [Hv Ha Ho]
  · isplitl [Hv]; · iexact Hv
    isplitl [Ha]; · iexact Ha
    iexact Ho
  iapply (wp_wand frame (wpE (defs₀ (F := F)) 𝒱₀ (thr d L) none)) $$ Hw
  iintro %_ Hs
  isplitl [Hg Hs H1 H2 H3]
  · isplitl [H1]; · iexact H1
    isplitl [H2]; · iexact H2
    isplitl [H3]; · iexact H3
    isplitl [Hg]; · iexact Hg
    iexact Hs
  isplitl [Hp]; · iexact Hp
  isplitl [HO]; · iexact HO
  iexact Hmw

/-- A trip of the loop. -/
theorem trip_wp (hfI : ∀ x, (fI x).toNat < 20000) (O : CellTallies nD τ sig (HIx 1)) (W : Waits sig (HIx 1)) (v1 : BitVec 32) (k : Fin k0_t1_loop.trips) (u : Unit) :
    chunkInv d L fT fI f0 O W (2 * k.val)
      ⊢ runs d L (k0_t1_body (F := F) L tabM (Memref.isWhole_whole _) idxM (Memref.isWhole_whole _) outM (Memref.isWhole_whole _) lstM (Memref.isWhole_whole _)
          gatM (Memref.isWhole_whole _) avgM (Memref.isWhole_whole _) cc0_scratch3 cc0_scratch4 cc0_scratch5 cc0_scoped0 v1 k u)
        fun _ => chunkInv d L fT fI f0 O W (2 * (k.val + 1)) := by
  rw [t1_body_eq, offs0_eq, offs1_eq, sOffs0_eq, sOffs1_eq]
  refine then_wp d L (half_step d L fT fI f0 hfI (2 * k.val) (two_k_lt k) _ O W) fun w => ?_
  refine then_wp d L (then_wp d L (store_step d L fT fI f0 (2 * k.val) (two_k_lt k) O W) fun _ =>
    half_step d L fT fI f0 hfI (2 * k.val + 1) (two_k1_lt k) _ O W) fun _ => ?_
  exact then_wp d L (store_step d L fT fI f0 (2 * k.val + 1) (two_k1_lt k) O W) fun _ => ret_wp d L

/-- The loop. -/
theorem loop_wp (hfI : ∀ x, (fI x).toNat < 20000) (O : CellTallies nD τ sig (HIx 1)) (W : Waits sig (HIx 1)) (v1 : BitVec 32) :
    chunkInv d L fT fI f0 O W 0
      ⊢ runs d L (Scf.Loop.for k0_t1_loop k0_t1_ok ⟨⟩ (k0_t1_body (F := F) L tabM (Memref.isWhole_whole _) idxM (Memref.isWhole_whole _) outM (Memref.isWhole_whole _) lstM (Memref.isWhole_whole _)
          gatM (Memref.isWhole_whole _) avgM (Memref.isWhole_whole _) cc0_scratch3 cc0_scratch4 cc0_scratch5 cc0_scoped0 v1))
        fun _ => chunkInv d L fT fI f0 O W 250 := by
  iintro H
  iapply (Scf.wp_for frame (wpE (defs₀ (F := F)) 𝒱₀ (thr d L) none) Set.univ _ _ _ k0_t1_ok ⟨⟩ _ (fun t _ => chunkInv d L fT fI f0 O W (2 * t))
    (fun t u => trip_wp d L fT fI f0 hfI O W v1 t u))
  isplitl [H]; · iexact H
  iintro %_ H
  iapply (Entails.of_eq (congrArg (chunkInv d L fT fI f0 O W) (show 2 * k0_t1_loop.trips = 250 by rw [trips1])))
  iexact H

end Cert.Proof.Unpool

end
-- ==== Proof.Copy.lean ====
/-
  The copies of the inputs' rows into the output: up to four for each half of the batch, all on one semaphore, started
  before the edge loop and waited for after it.
-/
module

public import proofs.«01_k».proof.Proof.Loop
public import Idealize.ShloMosaic.Lib.SparseCore.Launch

@[expose] public section

noncomputable section

namespace Cert.Proof.Unpool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (fT : S20000x128.Idx → Elt F .f32) (fI : S32x250x80.Idx → Elt F .i32) (f0 : S340000x128.Idx → Elt F .f32)

/-! ## The copies' numbers -/

/-- Whether tile `w` has the copy numbered `j`: each half of the batch has 125 blocks of eighty rows, dealt round the tiles. -/
abbrev Has (w j : ℕ) : Prop := w + 32 * (j % 4) < 125
/-- The copy's first row in the output, -/
def dstRow (w j : ℕ) : ℕ := j / 4 * 170000 + (w + 32 * (j % 4)) * 80
/-- and in the table. -/
def srcRow (w j : ℕ) : ℕ := j / 4 * 10000 + (w + 32 * (j % 4)) * 80
/-- How many copies come before the one numbered `j`. -/
def before (w j : ℕ) : ℕ := if w < 29 then j else j - j / 4
/-- The number of the copy that comes as number `t`. -/
def nth (w t : ℕ) : ℕ := if w < 29 then t else t + t / 3

theorem before_has (w j : ℕ) (hw : w < 32) (h : Has w j) (hj : j < 8) : before w (j + 1) = before w j + 1 ∧ nth w (before w j) = j ∧ before w j < before w 8 := by
  unfold before nth Has at *
  split <;> (refine ⟨?_, ?_, ?_⟩ <;> omega)

theorem before_not (w j : ℕ) (hw : w < 32) (h : ¬ Has w j) (hj : j < 8) : before w (j + 1) = before w j := by
  unfold before Has at *
  split <;> omega

/-- The copies from number `j` on. -/
abbrev from_ (w j : ℕ) : Finset ℕ := (Finset.Ico j 8).filter (Has w)

theorem from_has (w j : ℕ) (h : Has w j) (hj : j < 8) : from_ w j = insert j (from_ w (j + 1)) := by
  ext x
  simp only [Finset.mem_filter, Finset.mem_Ico, Finset.mem_insert]
  constructor
  · rintro ⟨⟨h1, h2⟩, h3⟩
    rcases Nat.eq_or_lt_of_le h1 with rfl | h1
    · exact .inl rfl
    · exact .inr ⟨⟨h1, h2⟩, h3⟩
  · rintro (rfl | ⟨⟨h1, h2⟩, h3⟩)
    · exact ⟨⟨le_refl _, hj⟩, h⟩
    · exact ⟨⟨by omega, h2⟩, h3⟩

theorem from_not (w j : ℕ) (h : ¬ Has w j) (hj : j < 8) : from_ w j = from_ w (j + 1) := by
  ext x
  simp only [Finset.mem_filter, Finset.mem_Ico]
  constructor
  · rintro ⟨⟨h1, h2⟩, h3⟩
    rcases Nat.eq_or_lt_of_le h1 with rfl | h1
    · exact absurd h3 h
    · exact ⟨⟨h1, h2⟩, h3⟩
  · rintro ⟨⟨h1, h2⟩, h3⟩
    exact ⟨⟨by omega, h2⟩, h3⟩

/-- The copies in turn are the copies that the tile has. -/
theorem nth_image (w : ℕ) (hw : w < 32) : (Finset.univ : Finset (Fin (before w 8))).image (fun t => nth w t.val) = from_ w 0 := by
  ext x
  simp only [Finset.mem_image, Finset.mem_univ, true_and, Finset.mem_filter, Finset.mem_Ico]
  constructor
  · rintro ⟨t, rfl⟩
    have ht := t.isLt
    unfold nth Has
    by_cases h : w < 29
    · replace ht := lt_of_lt_of_eq ht (show before w 8 = 8 from if_pos h)
      rw [if_pos h]
      exact ⟨⟨Nat.zero_le _, ht⟩, by omega⟩
    · replace ht := lt_of_lt_of_eq ht (show before w 8 = 6 from if_neg h)
      rw [if_neg h]
      exact ⟨⟨Nat.zero_le _, by omega⟩, by omega⟩
  · rintro ⟨⟨-, h8⟩, h⟩
    obtain ⟨-, h1, h2⟩ := before_has w x hw h h8
    exact ⟨⟨before w x, h2⟩, h1⟩

theorem nth_inj (w : ℕ) : Set.InjOn (fun t : Fin (before w 8) => nth w t.val) (Finset.univ : Finset (Fin (before w 8))) := by
  intro a _ b _ h
  apply Fin.ext
  simp only [nth] at h
  split at h <;> omega

/-! ## What a copy lands -/

abbrev cSem : DmaSem sig := cc0_scratch5.sem
/-- What a copy of eighty rows counts on the semaphore. -/
abbrev credC : ℕ := main_v8_scv.dmaCredit S80x128 .f32

/-- The rows of copy `j`, as they are found and at their final contents. -/
abbrev rowsFound (j : ℕ) : sProp 𝕄 := oLoc d ↦[oRows (dstRow (wid L) j) 80]{fullShare} f0
abbrev rowsCopied (j : ℕ) : sProp 𝕄 := oLoc d ↦[oRows (dstRow (wid L) j) 80]{fullShare} outVal fT fI

theorem outAt_copy (w j : ℕ) (hj : j < 8) (h : Has w j) (p : Fin 80) (q : Fin 128) (r : Fin 340000) (s : Fin 20000)
    (hr : r.val = dstRow w j + p.val) (hs : s.val = srcRow w j + p.val) : outAt fT fI r q = fT (ix2 s q) := by
  have hp := p.isLt
  unfold dstRow at hr
  unfold srcRow at hs
  unfold Has at h
  have h1 : r.val % 170000 = (w + 32 * (j % 4)) * 80 + p.val := by omega
  have h2 : r.val / 170000 = j / 4 := by omega
  unfold outAt
  rw [dif_pos (by omega)]
  refine congrArg (fun a => fT (ix2 a q)) (Fin.ext ?_)
  show r.val / 170000 * 10000 + r.val % 170000 = s.val
  omega

theorem copy_lands (j : ℕ) (hj : j < 8) (hh : Has (wid L) j) (h) (h') :
    ∀ x ∈ oRows (dstRow (wid L) j) 80, (outV80 (dstRow (wid L) j) h).view.write (Elt F) f0 ((tabV80 (srcRow (wid L) j) h').view.read (Elt F) fT) Finset.univ x
      = outVal fT fI x := by
  intro x hx
  rw [← set_outV80 _ h] at hx
  obtain ⟨y, -, rfl⟩ := Finset.mem_map.mp hx
  obtain ⟨p, q, rfl⟩ : ∃ (p : Fin 80) (q : Fin 128), y = ix2 p q := ⟨y 0, y 1, eq_ix2 y⟩
  have hd : dstRow (wid L) j + 80 ≤ 340000 := h 0
  have hs : srcRow (wid L) j + 80 ≤ 20000 := h' 0
  rw [View.write_emb_of_mem _ _ (Finset.mem_univ _), cast_eq, View.read_apply, cast_eq]
  rw [show (tabV80 (srcRow (wid L) j) h').view.emb (ix2 p q) = (ix2 (⟨srcRow (wid L) j + p.val, by have := p.isLt; omega⟩ : Fin 20000) q : S20000x128.Idx) from ?_,
    show (outV80 (dstRow (wid L) j) h).view.emb (ix2 p q) = (ix2 (⟨dstRow (wid L) j + p.val, by have := p.isLt; omega⟩ : Fin 340000) q : S340000x128.Idx) from ?_]
  · exact (outAt_copy fT fI (wid L) j hj hh p q _ _ rfl rfl).symm
  · funext a
    apply Fin.ext
    match a with
    | 0 => show dstRow (wid L) j + 1 * p.val = dstRow (wid L) j + p.val; omega
    | 1 => show 0 + 1 * q.val = q.val; omega
  · funext a
    apply Fin.ext
    match a with
    | 0 => show srcRow (wid L) j + 1 * p.val = srcRow (wid L) j + p.val; omega
    | 1 => show 0 + 1 * q.val = q.val; omega

/-! ## Starting them -/

/-- What the copy that comes as number `t` delivers. -/
abbrev copied (t : Fin (before (wid L) 8)) : sProp 𝕄 := rowsCopied d L fT fI (nth (wid L) t.val)

/-- Before the start of copy `j`. -/
def copyInv (j : ℕ) : sProp 𝕄 :=
  iprop(Transfers.Batch countersEmb (thr d L) (.dma cSem) (default : HIx 1) credC (copied d L fT fI) (before (wid L) j) 0
    ∗ bigSep (from_ (wid L) j) fun j => iprop(rowsFound d L f0 j ∗ tabPts d L fT (4 + j)))

/-- The start of a copy, if the tile has it, and what follows. -/
def copyThen {α : Type} (cnd : BitVec 1) (od os : Fin 2 → ℕ) (hd : cnd = 1#1 → ∀ x, od x + S80x128.size x ≤ S340000x128.size x)
    (hs : cnd = 1#1 → ∀ x, os x + S80x128.size x ≤ S20000x128.size x) (k : TP F L α) : TP F L α :=
  if h : cnd = 1#1 then
    Prog.lift (.enqueueDma (tabM.slice (Rect.unit (s := S20000x128) os S80x128.size (hs h)) (fun _ => rfl))
      (.here (outM.slice (Rect.unit (s := S340000x128) od S80x128.size (hd h)) (fun _ => rfl))) (.dma cSem)
      (View.wordExact_bits rfl) (View.wordExact_bits rfl) ⟨Or.inl rfl, trivial⟩) >>= fun _ => k
  else k

theorem copy_step (j : ℕ) (hj : j < 8) {α : Type} (cnd : BitVec 1) (od os : Fin 2 → ℕ) (hd) (hs) (k : TP F L α) (Q : α → sProp 𝕄)
    (hc : cnd = 1#1 ↔ Has (wid L) j) (hod : od = ![dstRow (wid L) j, 0]) (hos : os = ![srcRow (wid L) j, 0]) :
    copyInv d L fT fI f0 j ⊢ iprop((copyInv d L fT fI f0 (j + 1) -∗ runs d L k Q) -∗ runs d L (copyThen L cnd od os hd hs k) Q) := by
  subst hod hos
  unfold copyThen
  by_cases h : cnd = 1#1
  · have hh := hc.mp h
    obtain ⟨e1, e2, e3⟩ := before_has (wid L) j (wid_lt L) hh hj
    have hset := set_outV80 (dstRow (wid L) j) (hd h)
    have hland := pointsTo_congr (ℓ := oLoc d) (q := fullShare) (Ix := HIx 1) (Name := ℕ) (U := UU) (Lvl := ℕ)
      (copy_lands L fT fI f0 j hj hh (hd h) (hs h))
    rw [dif_pos h]
    unfold copyInv
    rw [from_has _ _ hh hj, SparseCore.bigSep_insert' (by simp), e1]
    iintro ⟨HB, ⟨Ho, Ht⟩, Hr⟩ Hk
    ihave Ht := (pointsTo_split_subset (ℓ := tLoc d) (q := tabShare L (4 + j)) (f := fT) (S := Finset.univ)
      (Finset.subset_univ (tabV80 (srcRow (wid L) j) (hs h)).view.set)).1 $$ Ht
    icases Ht with ⟨Ht, -⟩
    iapply (Transfers.wp_dmaBatch countersEmb 𝒱₀ (thr d L) none (default : HIx 1) credC (src := tabV80 (srcRow (wid L) j) (hs h))
      (dst := outV80 (dstRow (wid L) j) (hd h)) (via := .same) (sm := .dma cSem) (q := tabShare L (4 + j)) (fs := fT) (fd := f0)
      (Sd := oRows (dstRow (wid L) j) 80) (D := copied d L fT fI) (j := before (wid L) j) (u := 0) rfl (hset ▸ Finset.Subset.refl _) e3 (Nat.zero_le _)
      (by
        show _ ⊢ rowsCopied d L fT fI (nth (wid L) (before (wid L) j))
        rw [e2]
        exact sep_elim_left.trans (Entails.of_eq hland))) $$ [HB Ho Ht]
    · isplitl [Ht]; · iexact Ht
      isplitl [Ho]; · iexact Ho
      iexact HB
    iintro HB
    iapply Hk
    isplitl [HB]; · iexact HB
    iexact Hr
  · rw [dif_neg h]
    have hh := fun h' => h (hc.mpr h')
    unfold copyInv
    rw [from_not _ _ hh hj, before_not _ _ (wid_lt L) hh hj]
    iintro H Hk
    iapply Hk
    iexact H

/-! ## Waiting for them -/

/-- Before the wait for copy `j`. -/
def waitInv (O : CellTallies nD τ sig (HIx 1)) (W : Waits sig (HIx 1)) (j : ℕ) : sProp 𝕄 :=
  iprop(Transfers.Batch countersEmb (thr d L) (.dma cSem) (default : HIx 1) credC (copied d L fT fI) (before (wid L) 8) (before (wid L) j * credC)
    ∗ owing d L O W ∗ Transfers.MayWaits (thr d L) (default : HIx 1) O)

/-- The wait for a copy, if the tile has it, and what follows. -/
def waitThen {α : Type} (cnd : BitVec 1) (od os : Fin 2 → ℕ) (hd : cnd = 1#1 → ∀ x, od x + S80x128.size x ≤ S340000x128.size x)
    (hs : cnd = 1#1 → ∀ x, os x + S80x128.size x ≤ S20000x128.size x) (k : TP F L α) : TP F L α :=
  if h : cnd = 1#1 then
    Prog.lift (.waitDma2 cSem (tabM.slice (Rect.unit (s := S20000x128) os S80x128.size (hs h)) (fun _ => rfl))
      (outM.slice (Rect.unit (s := S340000x128) od S80x128.size (hd h)) (fun _ => rfl)) (View.wordExact_bits rfl) (View.wordExact_bits rfl)) >>= fun _ => k
  else k

theorem wait_step (j : ℕ) (hj : j < 8) {α : Type} (cnd : BitVec 1) (od os : Fin 2 → ℕ) (hd) (hs) (k : TP F L α) (Q : α → sProp 𝕄)
    (O : CellTallies nD τ sig (HIx 1)) (W : Waits sig (HIx 1)) (hc : cnd = 1#1 ↔ Has (wid L) j) :
    waitInv d L fT fI O W j ⊢ iprop((waitInv d L fT fI O W (j + 1) -∗ runs d L k Q) -∗ runs d L (waitThen L cnd od os hd hs k) Q) := by
  unfold waitThen
  by_cases h : cnd = 1#1
  · have hh := hc.mp h
    obtain ⟨e1, -, e3⟩ := before_has (wid L) j (wid_lt L) hh hj
    have e4 : before (wid L) j * credC + 1 * credC ≤ credC * before (wid L) 8 := by
      rw [← Nat.add_mul, Nat.mul_comm credC]
      exact Nat.mul_le_mul_right _ e3
    have e5 : before (wid L) (j + 1) * credC = before (wid L) j * credC + 1 * credC := by rw [e1, Nat.add_mul]
    rw [dif_pos h]
    unfold waitInv
    rw [e5]
    conv_lhs => unfold owing
    iintro ⟨HB, ⟨%W', %hW, HO⟩, #Hmw⟩ Hk
    iapply (Transfers.wp_waitBatchMulO countersEmb 𝒱₀ (thr d L) none (default : HIx 1) (N := credC) (sem := cSem)
      (dstw := outM.slice (Rect.unit (s := S340000x128) od S80x128.size (hd h)) (fun _ => rfl)) 1 (Nat.one_mul _).symm (D := copied d L fT fI) e4) $$ [HB HO]
    · isplitl [HB]; · iexact HB
      isplitl [HO]; · iexact HO
      iapply (Transfers.MayWaits.elim (SemLoc.dma cSem)) $$ Hmw
    iintro ⟨HB, HO⟩
    iapply Hk
    isplitl [HB]; · iexact HB
    isplitl [HO]
    · iapply (owing_wait d L O W W' hW (SemLoc.dma cSem))
      iexact HO
    · iexact Hmw
  · rw [dif_neg h]
    have hh := fun h' => h (hc.mpr h')
    unfold waitInv
    rw [before_not _ _ (wid_lt L) hh hj]
    iintro H Hk
    iapply Hk
    iexact H

/-- Every copy waited for. -/
theorem copies_done : (Transfers.Batch countersEmb (thr d L) (.dma cSem) (default : HIx 1) credC (copied d L fT fI) (before (wid L) 8) (before (wid L) 8 * credC) : sProp 𝕄)
    ⊢ |={Set.univ}=> iprop((bigSep (from_ (wid L) 0) fun j => rowsCopied d L fT fI j) ∗ semVal (thr d L, .dma cSem) 0) := by
  rw [← nth_image (wid L) (wid_lt L), SparseCore.bigSep_image_of_injOn (nth_inj (wid L)), Nat.mul_comm]
  have hN : 0 < credC := by decide
  exact Transfers.batch_collect' countersEmb (thr d L) hN

end Cert.Proof.Unpool

end
-- ==== Proof.Parts.lean ====
/-
  The parts of a tile's task around the edge loop, each run once: the copies' starts, the fetch of the tile's list, the
  first gathers, the last write-outs' waits, the copies' waits.
-/
module

public import proofs.«01_k».proof.Proof.Copy

@[expose] public section

noncomputable section

namespace Cert.Proof.Unpool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (fT : S20000x128.Idx → Elt F .f32) (fI : S32x250x80.Idx → Elt F .i32) (f0 : S340000x128.Idx → Elt F .f32)

/-- One step, then the rest. -/
theorem chain {A B X Y : sProp 𝕄} (h : A ⊢ iprop((B -∗ X) -∗ Y)) (hx : B ⊢ X) : A ⊢ Y := by
  iintro H
  ihave Hw := h $$ H
  iapply Hw
  iintro H
  iapply hx
  iexact H

/-- A run keeps what it does not touch. -/
theorem runs_frame {α : Type} {p : TP F L α} {A R : sProp 𝕄} {Q : α → sProp 𝕄} (h : A ⊢ runs d L p Q) :
    iprop(A ∗ R) ⊢ runs d L p fun a => iprop(Q a ∗ R) :=
  (BI.sep_mono h (BI.Entails.refl _)).trans (wp_frame_r frame (wpE (defs₀ (F := F)) 𝒱₀ (thr d L) none) Set.univ)

/-! ## Which copies a tile has, and where they are -/

theorem starts_has : ∀ i : grid0.Coords, (k0_cond1 i = 1#1 ↔ Has (wid i) 0) ∧ (k0_cond2 i = 1#1 ↔ Has (wid i) 1)
    ∧ (k0_cond3 i = 1#1 ↔ Has (wid i) 2) ∧ (k0_cond4 i = 1#1 ↔ Has (wid i) 3) ∧ (k0_cond5 i = 1#1 ↔ Has (wid i) 4)
    ∧ (k0_cond6 i = 1#1 ↔ Has (wid i) 5) ∧ (k0_cond7 i = 1#1 ↔ Has (wid i) 6) ∧ (k0_cond8 i = 1#1 ↔ Has (wid i) 7) := by
  decide +kernel

theorem waits_has : ∀ i : grid0.Coords, (k0_cond13 i = 1#1 ↔ Has (wid i) 0) ∧ (k0_cond14 i = 1#1 ↔ Has (wid i) 1)
    ∧ (k0_cond15 i = 1#1 ↔ Has (wid i) 2) ∧ (k0_cond16 i = 1#1 ↔ Has (wid i) 3) ∧ (k0_cond17 i = 1#1 ↔ Has (wid i) 4)
    ∧ (k0_cond18 i = 1#1 ↔ Has (wid i) 5) ∧ (k0_cond19 i = 1#1 ↔ Has (wid i) 6) ∧ (k0_cond20 i = 1#1 ↔ Has (wid i) 7) := by
  decide +kernel

theorem at_row {o : Fin 2 → ℕ} {a b : ℕ} (h : o = ![a, 0]) (e : a = b) : o = ![b, 0] := e ▸ h

theorem dst_eq (j : ℕ) (h : j < 8) : 160 * (L 1).val + 80 * (L 0).val + (j / 4 * 170000 + 2560 * (j % 4)) = dstRow (wid L) j := by
  unfold dstRow wid
  omega
theorem src_eq (j : ℕ) (h : j < 8) : 160 * (L 1).val + 80 * (L 0).val + (j / 4 * 10000 + 2560 * (j % 4)) = srcRow (wid L) j := by
  unfold srcRow wid
  omega

/-! ## The copies' starts -/

abbrev part9 : TP F L (Σ' (_ : BitVec 32) (_ : BitVec 32), BitVec 32) :=
  k0_part9 (F := F) L tabM (Memref.isWhole_whole _) idxM (Memref.isWhole_whole _) outM (Memref.isWhole_whole _) lstM (Memref.isWhole_whole _)
    gatM (Memref.isWhole_whole _) avgM (Memref.isWhole_whole _) cc0_scratch3 cc0_scratch4 cc0_scratch5 cc0_scoped0
abbrev part10 (a b c : BitVec 32) : TP F L (Σ' (_ : BitVec 32), BitVec 32) :=
  k0_part10 (F := F) L tabM (Memref.isWhole_whole _) idxM (Memref.isWhole_whole _) outM (Memref.isWhole_whole _) lstM (Memref.isWhole_whole _)
    gatM (Memref.isWhole_whole _) avgM (Memref.isWhole_whole _) cc0_scratch3 cc0_scratch4 cc0_scratch5 cc0_scoped0 a b c
abbrev part11 (a b : BitVec 32) : TP F L PUnit :=
  k0_part11 (F := F) L tabM (Memref.isWhole_whole _) idxM (Memref.isWhole_whole _) outM (Memref.isWhole_whole _) lstM (Memref.isWhole_whole _)
    gatM (Memref.isWhole_whole _) avgM (Memref.isWhole_whole _) cc0_scratch3 cc0_scratch4 cc0_scratch5 cc0_scoped0 a b
abbrev part12 (a : BitVec 32) : TP F L PUnit :=
  k0_part12 (F := F) L tabM (Memref.isWhole_whole _) idxM (Memref.isWhole_whole _) outM (Memref.isWhole_whole _) lstM (Memref.isWhole_whole _)
    gatM (Memref.isWhole_whole _) avgM (Memref.isWhole_whole _) cc0_scratch3 cc0_scratch4 cc0_scratch5 cc0_scoped0 a
abbrev part13 (a : BitVec 32) : TP F L (Σ' (_ : BitVec 32), BitVec 32) :=
  k0_part13 (F := F) L tabM (Memref.isWhole_whole _) idxM (Memref.isWhole_whole _) outM (Memref.isWhole_whole _) lstM (Memref.isWhole_whole _)
    gatM (Memref.isWhole_whole _) avgM (Memref.isWhole_whole _) cc0_scratch3 cc0_scratch4 cc0_scratch5 cc0_scoped0 a
abbrev part14 (a b c : BitVec 32) : TP F L PUnit :=
  k0_part14 (F := F) L tabM (Memref.isWhole_whole _) idxM (Memref.isWhole_whole _) outM (Memref.isWhole_whole _) lstM (Memref.isWhole_whole _)
    gatM (Memref.isWhole_whole _) avgM (Memref.isWhole_whole _) cc0_scratch3 cc0_scratch4 cc0_scratch5 cc0_scoped0 a b c
abbrev part15 (a : BitVec 32) : TP F L (Σ' (_ : BitVec 32), BitVec 32) :=
  k0_part15 (F := F) L tabM (Memref.isWhole_whole _) idxM (Memref.isWhole_whole _) outM (Memref.isWhole_whole _) lstM (Memref.isWhole_whole _)
    gatM (Memref.isWhole_whole _) avgM (Memref.isWhole_whole _) cc0_scratch3 cc0_scratch4 cc0_scratch5 cc0_scoped0 a

theorem part9_eq : ∃ r, part9 (F := F) L
    = copyThen L (k0_cond1 L) (k0_off1 L) (k0_off2 L) (k0_off1_inb L) (k0_off2_inb L)
      (copyThen L (k0_cond2 L) (k0_off3 L) (k0_off4 L) (k0_off3_inb L) (k0_off4_inb L)
        (copyThen L (k0_cond3 L) (k0_off5 L) (k0_off6 L) (k0_off5_inb L) (k0_off6_inb L) (Prog.ret r))) := ⟨_, rfl⟩

theorem part9_wp : copyInv d L fT fI f0 0 ⊢ runs d L (part9 (F := F) L) fun _ => copyInv d L fT fI f0 3 := by
  obtain ⟨r, e⟩ := part9_eq (F := F) L
  obtain ⟨h0, h1, h2, -⟩ := starts_has L
  rw [e]
  refine chain (copy_step d L fT fI f0 0 (by omega) _ _ _ _ _ _ _ h0 (at_row (k0_off1_eq L) (dst_eq L 0 (by omega))) (at_row (k0_off2_eq L) (src_eq L 0 (by omega)))) ?_
  refine chain (copy_step d L fT fI f0 1 (by omega) _ _ _ _ _ _ _ h1 (at_row (k0_off3_eq L) (dst_eq L 1 (by omega))) (at_row (k0_off4_eq L) (src_eq L 1 (by omega)))) ?_
  exact chain (copy_step d L fT fI f0 2 (by omega) _ _ _ _ _ _ _ h2 (at_row (k0_off5_eq L) (dst_eq L 2 (by omega))) (at_row (k0_off6_eq L) (src_eq L 2 (by omega)))) (ret_wp d L)

theorem part10_eq (a b c : BitVec 32) : ∃ r, part10 (F := F) L a b c
    = copyThen L (k0_cond4 L) (k0_off7 L) (k0_off8 L) (k0_off7_inb L) (k0_off8_inb L)
      (copyThen L (k0_cond5 L) (k0_off9 L) (k0_off10 L) (k0_off9_inb L) (k0_off10_inb L)
        (copyThen L (k0_cond6 L) (k0_off11 L) (k0_off12 L) (k0_off11_inb L) (k0_off12_inb L)
          (copyThen L (k0_cond7 L) (k0_off13 L) (k0_off14 L) (k0_off13_inb L) (k0_off14_inb L) (Prog.ret r)))) := ⟨_, rfl⟩

theorem part10_wp (a b c : BitVec 32) : copyInv d L fT fI f0 3 ⊢ runs d L (part10 (F := F) L a b c) fun _ => copyInv d L fT fI f0 7 := by
  obtain ⟨r, e⟩ := part10_eq (F := F) L a b c
  obtain ⟨-, -, -, h3, h4, h5, h6, -⟩ := starts_has L
  rw [e]
  refine chain (copy_step d L fT fI f0 3 (by omega) _ _ _ _ _ _ _ h3 (at_row (k0_off7_eq L) (dst_eq L 3 (by omega))) (at_row (k0_off8_eq L) (src_eq L 3 (by omega)))) ?_
  refine chain (copy_step d L fT fI f0 4 (by omega) _ _ _ _ _ _ _ h4 (at_row (k0_off9_eq L) (dst_eq L 4 (by omega))) (at_row (k0_off10_eq L) (src_eq L 4 (by omega)))) ?_
  refine chain (copy_step d L fT fI f0 5 (by omega) _ _ _ _ _ _ _ h5 (at_row (k0_off11_eq L) (dst_eq L 5 (by omega))) (at_row (k0_off12_eq L) (src_eq L 5 (by omega)))) ?_
  exact chain (copy_step d L fT fI f0 6 (by omega) _ _ _ _ _ _ _ h6 (at_row (k0_off13_eq L) (dst_eq L 6 (by omega))) (at_row (k0_off14_eq L) (src_eq L 6 (by omega)))) (ret_wp d L)

/-! ## The fetch of the tile's list -/

abbrev fSem : DmaSem sig := cc0_scoped0.sem

def fetchThen {α : Type} (o : Fin 3 → ℕ) (h : ∀ x, o x + S1x250x80.size x ≤ S32x250x80.size x) (k : TP F L α) : TP F L α :=
  Prog.lift (.enqueueDma ((idxM.slice (Rect.unit (s := S32x250x80) o S1x250x80.size h) (fun _ => rfl)).squeeze S250x80 squeezes_S1x250x80_S250x80)
    (.here lstM) (.dma fSem) ((View.wordExact_bits rfl).reshape _ _) (Memref.isWhole_whole _).wordExact ⟨Or.inl rfl, trivial⟩) >>= fun _ =>
  Prog.lift (.waitDma2 fSem ((idxM.slice (Rect.unit (s := S32x250x80) o S1x250x80.size h) (fun _ => rfl)).squeeze S250x80 squeezes_S1x250x80_S250x80)
    lstM ((View.wordExact_bits rfl).reshape _ _) (Memref.isWhole_whole _).wordExact) >>= fun _ => k

theorem list_lands (h) (f : S250x80.Idx → Elt F .i32) :
    View.write (Elt F) (lstM).view f ((idxV (wid L) h).view.read (Elt F) fI) Finset.univ = lst L fI := by
  rw [View.write_whole_univ]
  funext x
  obtain ⟨p, q, rfl⟩ : ∃ (p : Fin 250) (q : Fin 80), x = ix2 p q := ⟨x 0, x 1, eq_ix2 x⟩
  rw [View.read_apply, cast_eq, emb_idxV _ _ (wid_lt L)]
  rfl

theorem fetch_step {α : Type} (o : Fin 3 → ℕ) (h) (k : TP F L α) (Q : α → sProp 𝕄) (O : CellTallies nD τ sig (HIx 1)) (W : Waits sig (HIx 1))
    (ho : o = ![wid L, 0, 0]) :
    iprop((semVal (thr d L, .dma fSem) 0 ∗ (iLoc d ↦[iRow (wid L)]{fullShare} fI) ∗ ∃ f, lLoc d L ↦{fullShare} f) ∗ owing d L O W
        ∗ Transfers.MayWaits (thr d L) (default : HIx 1) O)
      ⊢ iprop((iprop((semVal (thr d L, .dma fSem) 0 ∗ (lLoc d L ↦{fullShare} lst L fI)) ∗ owing d L O W
        ∗ Transfers.MayWaits (thr d L) (default : HIx 1) O) -∗ runs d L k Q) -∗ runs d L (fetchThen L o h k) Q) := by
  subst ho
  unfold fetchThen
  have hw : (lstM).view.set = Finset.univ := View.set_whole _
  have hland := fun f => list_lands L fI h f
  conv_lhs => unfold owing
  iintro ⟨⟨Hv, Hi, ⟨%f, Hl⟩⟩, ⟨%W', %hW, HO⟩, #Hmw⟩ Hk
  iapply (Transfers.wp_dmaLocal countersEmb 𝒱₀ (thr d L) none (default : HIx 1) (lstM).view.dmaCredit (src := idxV (wid L) h) (dst := lstM) (via := .same) (sm := .dma fSem)
      (q := fullShare) (fs := fI) (fd := f) (Sd := Finset.univ) rfl (by decide) (Finset.subset_univ _)) $$ [Hv Hi Hl]
  · rw [set_idxV]
    isplitl [Hi]; · iexact Hi
    isplitl [Hl]; · iexact Hl
    iexact Hv
  iintro Hfl
  iapply (Transfers.wp_waitLocalO countersEmb 𝒱₀ (thr d L) none (default : HIx 1) (dstw := lstM) (sem := fSem) (N := (lstM).view.dmaCredit) rfl) $$ [Hfl HO]
  · isplitl [Hfl]; · iexact Hfl
    isplitl [HO]; · iexact HO
    iapply (Transfers.MayWaits.elim (SemLoc.dma fSem)) $$ Hmw
  iintro ⟨⟨Hl, -⟩, Hv, HO⟩
  iapply Hk
  isplitl [Hv Hl]
  · isplitl [Hv]; · iexact Hv
    iapply (Entails.of_eq (congrArg (fun g => (lLoc d L ↦{fullShare} g : sProp 𝕄)) (hland f)))
    iexact Hl
  isplitl [HO]
  · iapply (owing_wait d L O W W' hW (SemLoc.dma fSem))
    iexact HO
  · iexact Hmw

/-! ## The last write-outs' waits -/

theorem store_wait (s : Fin 4) (c : ℕ) (h) (h') (hs) {α : Type} (k : TP F L α) (Q : α → sProp 𝕄) (O : CellTallies nD τ sig (HIx 1)) (W : Waits sig (HIx 1)) {h1 h2} :
    iprop(storing d L fT fI s c ∗ owing d L O W ∗ Transfers.MayWaits (thr d L) (default : HIx 1) O)
      ⊢ iprop((iprop((storeIdle d L s ∗ edgePts d L fT fI c) ∗ owing d L O W ∗ Transfers.MayWaits (thr d L) (default : HIx 1) O) -∗ runs d L k Q)
        -∗ runs d L (Prog.lift (.waitDma2 (semV cc0_scratch4 s.val hs) (avgV s.val h) (outV40 0 h') h1 h2) >>= fun _ => k) Q) := by
  conv_lhs => unfold storing owing
  iintro ⟨Hfl, ⟨%W', %hW, HO⟩, #Hmw⟩ Hk
  iapply (Transfers.wp_waitLocalO countersEmb 𝒱₀ (thr d L) none (default : HIx 1) (dstw := outV40 0 h') (sem := sSem s) (N := credS) rfl) $$ [Hfl HO]
  · isplitl [Hfl]; · iexact Hfl
    isplitl [HO]; · iexact HO
    iapply (Transfers.MayWaits.elim (SemLoc.dma (sSem s))) $$ Hmw
  iintro ⟨⟨He, Ha⟩, Hv, HO⟩
  iapply Hk
  isplitl [Hv Ha He]
  · isplitl [Hv Ha]
    · unfold storeIdle
      isplitl [Hv]; · iexact Hv
      iexact Ha
    · iexact He
  isplitl [HO]
  · iapply (owing_wait d L O W W' hW (SemLoc.dma (sSem s)))
    iexact HO
  · iexact Hmw

end Cert.Proof.Unpool

end
-- ==== Proof.Tile.lean ====
/-
  The middle of a tile's task: its list fetched, the first gathers started, the edge loop run, and everything waited for.
-/
module

public import proofs.«01_k».proof.Proof.Parts

@[expose] public section

noncomputable section

namespace Cert.Proof.Unpool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (fT : S20000x128.Idx → Elt F .f32) (fI : S32x250x80.Idx → Elt F .i32) (f0 : S340000x128.Idx → Elt F .f32)

/-! ## The fetch, the first gathers and the edge loop -/

abbrev mays (O : CellTallies nD τ sig (HIx 1)) : sProp 𝕄 := Transfers.MayWaits (thr d L) (default : HIx 1) O
/-- A slot of the gather's ring before there is a list. -/
abbrev gatherRaw (s : Fin 4) : sProp 𝕄 :=
  iprop(semVal (thr d L, .dma (gSem s)) 0 ∗ (∃ f, gLoc d L ↦[gSlot s.val]{fullShare} f) ∗ tabPts d L fT s.val)

theorem gatherIdle_of (fl : S250x80.Idx → Elt F .i32) (s : Fin 4) : iprop(gatherRaw d L fT s ∗ lstPts d L fl s.val) ⊢ gatherIdle d L fT fl s := by
  unfold gatherIdle
  iintro ⟨⟨Hv, Hg, Ht⟩, Hl⟩
  isplitl [Hv]; · iexact Hv
  isplitl [Hg]; · iexact Hg
  isplitl [Ht]; · iexact Ht
  iexact Hl

/-- The list's buffer as a read share for each slot, and the rest of it. -/
theorem list_shares (fl : S250x80.Idx → Elt F .i32) :
    (lLoc d L ↦{fullShare} fl : sProp 𝕄)
      ⊣⊢ iprop((lLoc d L ↦{Transfers.shareDrop fullShare 4} fl) ∗ bigSep (Finset.range 4) fun s => lstPts d L fl s) :=
  Transfers.pointsTo_toks_range fullShare 4

theorem range4 (P : ℕ → sProp 𝕄) : bigSep (Finset.range 4) P = iprop(P 0 ∗ P 1 ∗ P 2 ∗ P 3) := by
  rw [show Finset.range 4 = insert 0 (insert 1 (insert 2 {3})) from by decide, SparseCore.bigSep_insert' (by decide), SparseCore.bigSep_insert' (by decide),
    SparseCore.bigSep_insert' (by decide), BI.bigSep_singleton]

/-- The start of a gather, and what follows. -/
def gatherThen {α : Type} (s : Fin 4) (c : ℕ) (h : ∀ x, (![s.val, 0, 0] : Fin 3 → ℕ) x + S1x80x128.size x ≤ S4x80x128.size x)
    (h' : ∀ x, (![c, 0] : Fin 2 → ℕ) x + S1x80.size x ≤ S250x80.size x) (hs : ∀ x, (![s.val] : Fin 1 → ℕ) x + S1.size x ≤ S4.size x) (k : TP F L α) : TP F L α :=
  SparseCore.enqueueIndirectGather rfl tabVAll (gatV s.val h) gathers_S20000x128_S80x128 (lstV c h') rfl (semV cc0_scratch3 s.val hs)
    (View.wordExact_bits rfl) rfl (Or.inl rfl) >>= fun _ => k

theorem gather_step (fl : S250x80.Idx → Elt F .i32) (hfl : ∀ x, (fl x).toNat < 20000) (s : Fin 4) (c : ℕ) (hc : c < 250) (h) (h') (hs) {α : Type} (k : TP F L α) (Q : α → sProp 𝕄) :
    gatherIdle d L fT fl s ⊢ iprop((gatherSt d L fT fl s c -∗ runs d L k Q) -∗ runs d L (gatherThen L s c h h' hs k) Q) :=
  gather_start d L fT fl hfl s c hc h h' hs (k := fun _ => k)

theorem part11_eq (a b : BitVec 32) : part11 (F := F) L a b
    = copyThen L (k0_cond8 L) (k0_off15 L) (k0_off16 L) (k0_off15_inb L) (k0_off16_inb L)
      (fetchThen L (k0_off17 L) (k0_off17_inb L)
        (gatherThen L 0 0 inb_S4x80x128_S1x80x128_0_0_0 inb_S250x80_S1x80_0_0 inb_S4_S1_0 (Prog.ret ⟨⟩))) := rfl

/-- The rings with their list. -/
abbrev listed (fl : S250x80.Idx → Elt F .i32) : sProp 𝕄 :=
  iprop(gatherSt d L fT fl 0 0 ∗ gatherIdle d L fT fl 1 ∗ gatherIdle d L fT fl 2 ∗ gatherIdle d L fT fl 3)

theorem part11_wp (hfI : ∀ x, (fI x).toNat < 20000) (O : CellTallies nD τ sig (HIx 1)) (W : Waits sig (HIx 1)) (a b : BitVec 32) :
    iprop(copyInv d L fT fI f0 7 ∗ ((semVal (thr d L, .dma fSem) 0 ∗ (iLoc d ↦[iRow (wid L)]{fullShare} fI) ∗ ∃ f, lLoc d L ↦{fullShare} f) ∗ owing d L O W ∗ mays d L O)
        ∗ (gatherRaw d L fT 0 ∗ gatherRaw d L fT 1 ∗ gatherRaw d L fT 2 ∗ gatherRaw d L fT 3))
      ⊢ runs d L (part11 (F := F) L a b) fun _ => iprop(copyInv d L fT fI f0 8
        ∗ (semVal (thr d L, .dma fSem) 0 ∗ lLoc d L ↦{Transfers.shareDrop fullShare 4} lst L fI) ∗ (owing d L O W ∗ mays d L O) ∗ listed d L fT (lst L fI)) := by
  obtain ⟨-, -, -, -, -, -, -, h7⟩ := starts_has L
  rw [part11_eq]
  iintro ⟨HC, HF, ⟨H0, H1, H2, H3⟩⟩
  iapply (copy_step d L fT fI f0 7 (by omega) _ _ _ _ _ _ _ h7 (at_row (k0_off15_eq L) (dst_eq L 7 (by omega))) (at_row (k0_off16_eq L) (src_eq L 7 (by omega)))) $$ HC
  iintro HC
  iapply (fetch_step d L fI _ _ _ _ O W (k0_off17_eq L)) $$ HF
  iintro ⟨⟨Hv, Hl⟩, HO⟩
  ihave Hl := (list_shares d L (lst L fI)).1 $$ Hl
  icases Hl with ⟨Hl, Hls⟩
  ihave Hls := (Entails.of_eq (range4 (fun s => lstPts d L (lst L fI) s))) $$ Hls
  icases Hls with ⟨L0, L1, L2, L3⟩
  ihave H0 := (gatherIdle_of d L fT (lst L fI) 0) $$ [H0 L0]
  · isplitl [H0]; · iexact H0
    iexact L0
  iapply (gather_step d L fT (lst L fI) (fun x => hfI _) 0 0 (by omega) _ _ _ _ _) $$ H0
  iintro H0
  iapply (ret_wp d L)
  isplitl [HC]; · iexact HC
  isplitl [Hv Hl]
  · isplitl [Hv] <;> iassumption
  isplitl [HO]; · iexact HO
  isplitl [H0]; · iexact H0
  isplitl [H1 L1]
  · iapply (gatherIdle_of d L fT (lst L fI) 1); isplitl [H1]; · iexact H1
    iexact L1
  isplitl [H2 L2]
  · iapply (gatherIdle_of d L fT (lst L fI) 2); isplitl [H2]; · iexact H2
    iexact L2
  · iapply (gatherIdle_of d L fT (lst L fI) 3); isplitl [H3]; · iexact H3
    iexact L3

theorem part12_eq (a : BitVec 32) : part12 (F := F) L a
    = gatherThen L 1 1 inb_S4x80x128_S1x80x128_1_0_0 inb_S250x80_S1x80_1_0 inb_S4_S1_1
      (gatherThen L 2 2 inb_S4x80x128_S1x80x128_2_0_0 inb_S250x80_S1x80_2_0 inb_S4_S1_2
        (gatherThen L 3 3 inb_S4x80x128_S1x80x128_3_0_0 inb_S250x80_S1x80_3_0 inb_S4_S1_3
          (Scf.Loop.for k0_t1_loop k0_t1_ok ⟨⟩ (k0_t1_body (F := F) L tabM (Memref.isWhole_whole _) idxM (Memref.isWhole_whole _) outM (Memref.isWhole_whole _) lstM
              (Memref.isWhole_whole _) gatM (Memref.isWhole_whole _) avgM (Memref.isWhole_whole _) cc0_scratch3 cc0_scratch4 cc0_scratch5 cc0_scoped0 a) >>= fun _ =>
            (Prog.lift (.waitDma2 (semV cc0_scratch4 (0 : Fin 4).val inb_S4_S1_0) (avgV (0 : Fin 4).val inb_S4x40x128_S1x40x128_0_0_0)
              (outV40 0 inb_S340000x128_S40x128_0_0) ((View.wordExact_bits rfl).reshape _ _) (View.wordExact_bits rfl)) >>= fun _ => Prog.ret ⟨⟩)))) := rfl

theorem slotSt_late (s : Fin 4) (c : ℕ) (h : 250 ≤ c) (e : slotOf c = s) :
    (slotSt d L fT fI c : sProp 𝕄) = iprop(gatherIdle d L fT (lst L fI) s ∗ storing d L fT fI s (c - 4)) := by
  rw [show slotSt d L fT fI c = iprop(gatherSt d L fT (lst L fI) (slotOf c) c ∗ storeSt d L fT fI (slotOf c) c) from rfl, e,
    gatherSt_ge _ _ _ _ _ _ (by omega), storeSt_ge _ _ _ _ _ _ (by omega)]

theorem slotSt_early (s : Fin 4) (c : ℕ) (h : c < 4) (e : slotOf c = s) :
    (slotSt d L fT fI c : sProp 𝕄) = iprop(gatherSt d L fT (lst L fI) s c ∗ storeIdle d L s) := by
  rw [show slotSt d L fT fI c = iprop(gatherSt d L fT (lst L fI) (slotOf c) c ∗ storeSt d L fT fI (slotOf c) c) from rfl, e, storeSt_lt _ _ _ _ _ _ (by omega)]

abbrev idles (fl : S250x80.Idx → Elt F .i32) : sProp 𝕄 :=
  iprop(gatherIdle d L fT fl 0 ∗ gatherIdle d L fT fl 1 ∗ gatherIdle d L fT fl 2 ∗ gatherIdle d L fT fl 3)

theorem loop_start (O : CellTallies nD τ sig (HIx 1)) (W : Waits sig (HIx 1)) :
    iprop((gatherSt d L fT (lst L fI) 0 0 ∗ gatherSt d L fT (lst L fI) 1 1 ∗ gatherSt d L fT (lst L fI) 2 2 ∗ gatherSt d L fT (lst L fI) 3 3)
        ∗ (storeIdle d L 0 ∗ storeIdle d L 1 ∗ storeIdle d L 2 ∗ storeIdle d L 3) ∗ undone d L f0 0 ∗ owing d L O W ∗ mays d L O)
      ⊢ chunkInv d L fT fI f0 O W 0 := by
  unfold chunkInv
  rw [slotSt_early d L fT fI 0 0 (by omega) rfl, slotSt_early d L fT fI 1 (0 + 1) (by omega) rfl, slotSt_early d L fT fI 2 (0 + 2) (by omega) rfl,
    slotSt_early d L fT fI 3 (0 + 3) (by omega) rfl, show finished d L fT fI 0 = iprop(emp) from BI.bigSep_empty]
  iintro ⟨⟨G0, G1, G2, G3⟩, ⟨S0, S1, S2, S3⟩, Hu, HO⟩
  isplitl [G0 G1 G2 G3 S0 S1 S2 S3]
  · isplitl [G0 S0]; · isplitl [G0] <;> iassumption
    isplitl [G1 S1]; · isplitl [G1] <;> iassumption
    isplitl [G2 S2]; · isplitl [G2] <;> iassumption
    isplitl [G3] <;> iassumption
  isplitl [Hu]
  · isplitl [Hu]; · iexact Hu
    iempintro
  iexact HO

theorem loop_end (O : CellTallies nD τ sig (HIx 1)) (W : Waits sig (HIx 1)) :
    chunkInv d L fT fI f0 O W 250
      ⊢ iprop(idles d L fT (lst L fI) ∗ (storing d L fT fI 0 248 ∗ storing d L fT fI 1 249 ∗ storing d L fT fI 2 246 ∗ storing d L fT fI 3 247)
        ∗ (bigSep (Finset.range 246) fun c => edgePts d L fT fI c) ∗ owing d L O W ∗ mays d L O) := by
  unfold chunkInv
  rw [slotSt_late d L fT fI 2 250 (by omega) rfl, slotSt_late d L fT fI 3 (250 + 1) (by omega) rfl, slotSt_late d L fT fI 0 (250 + 2) (by omega) rfl,
    slotSt_late d L fT fI 1 (250 + 3) (by omega) rfl]
  iintro ⟨⟨⟨G2, S2⟩, ⟨G3, S3⟩, ⟨G0, S0⟩, ⟨G1, S1⟩⟩, ⟨-, Hf⟩, HO⟩
  isplitl [G0 G1 G2 G3]
  · isplitl [G0]; · iexact G0
    isplitl [G1]; · iexact G1
    isplitl [G2] <;> iassumption
  isplitl [S0 S1 S2 S3]
  · isplitl [S0]; · iexact S0
    isplitl [S1]; · iexact S1
    isplitl [S2] <;> iassumption
  isplitl [Hf]; · iexact Hf
  iexact HO

theorem part12_wp (hfI : ∀ x, (fI x).toNat < 20000) (O : CellTallies nD τ sig (HIx 1)) (W : Waits sig (HIx 1)) (a : BitVec 32) :
    iprop(listed d L fT (lst L fI) ∗ (storeIdle d L 0 ∗ storeIdle d L 1 ∗ storeIdle d L 2 ∗ storeIdle d L 3) ∗ undone d L f0 0 ∗ owing d L O W ∗ mays d L O)
      ⊢ runs d L (part12 (F := F) L a) fun _ => iprop((idles d L fT (lst L fI) ∗ (bigSep (Finset.range 246) fun c => edgePts d L fT fI c) ∗ storeIdle d L 0 ∗ edgePts d L fT fI 248)
        ∗ (storing d L fT fI 1 249 ∗ storing d L fT fI 2 246 ∗ storing d L fT fI 3 247) ∗ owing d L O W ∗ mays d L O) := by
  rw [part12_eq]
  iintro ⟨⟨G0, G1, G2, G3⟩, HS, Hu, HO⟩
  iapply (gather_step d L fT (lst L fI) (fun x => hfI _) 1 1 (by omega) _ _ _ _ _) $$ G1
  iintro G1
  iapply (gather_step d L fT (lst L fI) (fun x => hfI _) 2 2 (by omega) _ _ _ _ _) $$ G2
  iintro G2
  iapply (gather_step d L fT (lst L fI) (fun x => hfI _) 3 3 (by omega) _ _ _ _ _) $$ G3
  iintro G3
  ihave Hc := (loop_start d L fT fI f0 O W) $$ [G0 G1 G2 G3 HS Hu HO]
  · isplitl [G0 G1 G2 G3]
    · isplitl [G0]; · iexact G0
      isplitl [G1]; · iexact G1
      isplitl [G2] <;> iassumption
    isplitl [HS]; · iexact HS
    isplitl [Hu] <;> iassumption
  iapply (then_wp d L ((loop_wp d L fT fI f0 hfI O W a).trans (wp_mono frame _ _ fun _ => loop_end d L fT fI f0 O W)) fun _ => ?_) $$ Hc
  iintro ⟨HG, ⟨S0, S1, S2, S3⟩, Hf, HO⟩
  iapply (store_wait d L fT fI 0 248 _ _ _ _ _ O W) $$ [S0 HO]
  · isplitl [S0] <;> iassumption
  iintro ⟨⟨S0, E0⟩, HO⟩
  iapply (ret_wp d L)
  isplitl [HG Hf S0 E0]
  · isplitl [HG]; · iexact HG
    isplitl [Hf]; · iexact Hf
    isplitl [S0] <;> iassumption
  isplitl [S1 S2 S3]
  · isplitl [S1]; · iexact S1
    isplitl [S2] <;> iassumption
  iexact HO

theorem part13_eq (a : BitVec 32) : ∃ r, part13 (F := F) L a
    = (Prog.lift (.waitDma2 (semV cc0_scratch4 (1 : Fin 4).val inb_S4_S1_1) (avgV (1 : Fin 4).val inb_S4x40x128_S1x40x128_1_0_0) (outV40 0 inb_S340000x128_S40x128_0_0)
        ((View.wordExact_bits rfl).reshape _ _) (View.wordExact_bits rfl)) >>= fun _ =>
      (Prog.lift (.waitDma2 (semV cc0_scratch4 (2 : Fin 4).val inb_S4_S1_2) (avgV (2 : Fin 4).val inb_S4x40x128_S1x40x128_2_0_0) (outV40 0 inb_S340000x128_S40x128_0_0)
        ((View.wordExact_bits rfl).reshape _ _) (View.wordExact_bits rfl)) >>= fun _ =>
      (Prog.lift (.waitDma2 (semV cc0_scratch4 (3 : Fin 4).val inb_S4_S1_3) (avgV (3 : Fin 4).val inb_S4x40x128_S1x40x128_3_0_0) (outV40 0 inb_S340000x128_S40x128_0_0)
        ((View.wordExact_bits rfl).reshape _ _) (View.wordExact_bits rfl)) >>= fun _ => Prog.ret r))) := ⟨_, rfl⟩

theorem part13_wp (O : CellTallies nD τ sig (HIx 1)) (W : Waits sig (HIx 1)) (a : BitVec 32) :
    iprop((storing d L fT fI 1 249 ∗ storing d L fT fI 2 246 ∗ storing d L fT fI 3 247) ∗ owing d L O W ∗ mays d L O)
      ⊢ runs d L (part13 (F := F) L a) fun _ => iprop(((storeIdle d L 1 ∗ edgePts d L fT fI 249) ∗ (storeIdle d L 2 ∗ edgePts d L fT fI 246)
        ∗ (storeIdle d L 3 ∗ edgePts d L fT fI 247)) ∗ owing d L O W ∗ mays d L O) := by
  obtain ⟨r, e⟩ := part13_eq (F := F) L a
  rw [e]
  iintro ⟨⟨S1, S2, S3⟩, HO⟩
  iapply (store_wait d L fT fI 1 249 _ _ _ _ _ O W) $$ [S1 HO]
  · isplitl [S1] <;> iassumption
  iintro ⟨S1, HO⟩
  iapply (store_wait d L fT fI 2 246 _ _ _ _ _ O W) $$ [S2 HO]
  · isplitl [S2] <;> iassumption
  iintro ⟨S2, HO⟩
  iapply (store_wait d L fT fI 3 247 _ _ _ _ _ O W) $$ [S3 HO]
  · isplitl [S3] <;> iassumption
  iintro ⟨S3, HO⟩
  iapply (ret_wp d L)
  isplitl [S1 S2 S3]
  · isplitl [S1]; · iexact S1
    isplitl [S2] <;> iassumption
  iexact HO

/-! ## The copies' waits -/

theorem part14_eq (a b c : BitVec 32) : part14 (F := F) L a b c
    = waitThen L (k0_cond13 L) (k0_off80 L) (k0_off81 L) (k0_off80_inb L) (k0_off81_inb L)
      (waitThen L (k0_cond14 L) (k0_off82 L) (k0_off83 L) (k0_off82_inb L) (k0_off83_inb L)
        (waitThen L (k0_cond15 L) (k0_off84 L) (k0_off85 L) (k0_off84_inb L) (k0_off85_inb L) (Prog.ret ⟨⟩))) := rfl

theorem part14_wp (O : CellTallies nD τ sig (HIx 1)) (W : Waits sig (HIx 1)) (a b c : BitVec 32) :
    waitInv d L fT fI O W 0 ⊢ runs d L (part14 (F := F) L a b c) fun _ => waitInv d L fT fI O W 3 := by
  obtain ⟨h0, h1, h2, -⟩ := waits_has L
  rw [part14_eq]
  refine chain (wait_step d L fT fI 0 (by omega) _ _ _ _ _ _ _ O W h0) ?_
  refine chain (wait_step d L fT fI 1 (by omega) _ _ _ _ _ _ _ O W h1) ?_
  exact chain (wait_step d L fT fI 2 (by omega) _ _ _ _ _ _ _ O W h2) (ret_wp d L)

theorem part15_eq (a : BitVec 32) : ∃ r, part15 (F := F) L a
    = waitThen L (k0_cond16 L) (k0_off86 L) (k0_off87 L) (k0_off86_inb L) (k0_off87_inb L)
      (waitThen L (k0_cond17 L) (k0_off88 L) (k0_off89 L) (k0_off88_inb L) (k0_off89_inb L)
        (waitThen L (k0_cond18 L) (k0_off90 L) (k0_off91 L) (k0_off90_inb L) (k0_off91_inb L)
          (waitThen L (k0_cond19 L) (k0_off92 L) (k0_off93 L) (k0_off92_inb L) (k0_off93_inb L) (Prog.ret r)))) := ⟨_, rfl⟩

theorem part15_wp (O : CellTallies nD τ sig (HIx 1)) (W : Waits sig (HIx 1)) (a : BitVec 32) :
    waitInv d L fT fI O W 3 ⊢ runs d L (part15 (F := F) L a) fun _ => waitInv d L fT fI O W 7 := by
  obtain ⟨r, e⟩ := part15_eq (F := F) L a
  obtain ⟨-, -, -, h3, h4, h5, h6, -⟩ := waits_has L
  rw [e]
  refine chain (wait_step d L fT fI 3 (by omega) _ _ _ _ _ _ _ O W h3) ?_
  refine chain (wait_step d L fT fI 4 (by omega) _ _ _ _ _ _ _ O W h4) ?_
  refine chain (wait_step d L fT fI 5 (by omega) _ _ _ _ _ _ _ O W h5) ?_
  exact chain (wait_step d L fT fI 6 (by omega) _ _ _ _ _ _ _ O W h6) (ret_wp d L)

/-- The last wait. -/
abbrev lastWait : TP F L PUnit := waitThen L (k0_cond20 L) (k0_off94 L) (k0_off95 L) (k0_off94_inb L) (k0_off95_inb L) (Prog.ret ⟨⟩)

theorem lastWait_wp (O : CellTallies nD τ sig (HIx 1)) (W : Waits sig (HIx 1)) :
    waitInv d L fT fI O W 7 ⊢ runs d L (lastWait (F := F) L) fun _ => waitInv d L fT fI O W 8 := by
  obtain ⟨-, -, -, -, -, -, -, h7⟩ := waits_has L
  unfold lastWait
  refine chain (wait_step d L fT fI 7 (by omega) _ _ _ _ _ _ _ O W h7) ?_
  exact ret_wp d L

end Cert.Proof.Unpool

end
-- ==== Proof.Task.lean ====
/-
  A tile's task, run once: its list, its share of the table and its pieces of the output in; those pieces at their final
  contents out.
-/
module

public import proofs.«01_k».proof.Proof.Tile

@[expose] public section

noncomputable section

namespace Cert.Proof.Unpool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (fT : S20000x128.Idx → Elt F .f32) (fI : S32x250x80.Idx → Elt F .i32) (f0 : S340000x128.Idx → Elt F .f32)

/-- A part, then the rest. -/
theorem step_wp {α β : Type} {p : TP F L α} {k : α → TP F L β} {P : sProp 𝕄} {P' : α → sProp 𝕄} {Q : β → sProp 𝕄} (h : P ⊢ runs d L p P') :
    P ⊢ iprop((∀ a, P' a -∗ runs d L (k a) Q) -∗ runs d L (p >>= k) Q) := by
  iintro H Hk
  ihave Hw := h $$ H
  unfold runs
  rw [wp_bind]
  iapply (wp_wand frame (wpE (defs₀ (F := F)) 𝒱₀ (thr d L) none)) $$ Hw
  iexact Hk

theorem owing_start (O : CellTallies nD τ sig (HIx 1)) (W : Waits sig (HIx 1)) : (owes (thr d L) O W : sProp 𝕄) ⊢ owing d L O W := by
  unfold owing
  iintro H
  iexists W
  isplitr
  · ipureintro
    exact fun p hp => .inl hp
  · iexact H

theorem wait_start (O : CellTallies nD τ sig (HIx 1)) (W : Waits sig (HIx 1)) :
    iprop(copyInv d L fT fI f0 8 ∗ owing d L O W ∗ mays d L O) ⊢ waitInv d L fT fI O W 0 := by
  have e : before (wid L) 0 * credC = 0 := by
    rw [show before (wid L) 0 = 0 from by unfold before; split <;> rfl, Nat.zero_mul]
  unfold copyInv waitInv
  rw [e]
  iintro ⟨⟨HB, -⟩, HO⟩
  isplitl [HB]; · iexact HB
  iexact HO

abbrev stores : sProp 𝕄 := iprop(storeIdle d L 0 ∗ storeIdle d L 1 ∗ storeIdle d L 2 ∗ storeIdle d L 3)
abbrev raws : sProp 𝕄 := iprop(gatherRaw d L fT 0 ∗ gatherRaw d L fT 1 ∗ gatherRaw d L fT 2 ∗ gatherRaw d L fT 3)

theorem edges_all : iprop((bigSep (Finset.range 246) fun c => edgePts d L fT fI c) ∗ edgePts d L fT fI 246 ∗ edgePts d L fT fI 247
      ∗ edgePts d L fT fI 248 ∗ edgePts d L fT fI 249) ⊢ bigSep (Finset.range 250) fun c => edgePts d L fT fI c := by
  rw [show Finset.range 250 = insert 249 (insert 248 (insert 247 (insert 246 (Finset.range 246)))) from by
      rw [← Finset.range_add_one, ← Finset.range_add_one, ← Finset.range_add_one, ← Finset.range_add_one],
    SparseCore.bigSep_insert' (by decide), SparseCore.bigSep_insert' (by decide), SparseCore.bigSep_insert' (by decide), SparseCore.bigSep_insert' (by decide)]
  iintro ⟨H, E6, E7, E8, E9⟩
  isplitl [E9]; · iexact E9
  isplitl [E8]; · iexact E8
  isplitl [E7]; · iexact E7
  isplitl [E6] <;> iassumption

abbrev task : TP F L PUnit :=
  cc0__unpool_body (F := F) L tabM (Memref.isWhole_whole _) idxM (Memref.isWhole_whole _) outM (Memref.isWhole_whole _) lstM (Memref.isWhole_whole _)
    gatM (Memref.isWhole_whole _) avgM (Memref.isWhole_whole _) cc0_scratch3 cc0_scratch4 cc0_scratch5 cc0_scoped0

/-- What follows each part. -/
def after13 (v1 a b : BitVec 32) : TP F L PUnit := part14 L v1 a b >>= fun _ => part15 L v1 >>= fun _ => lastWait L
def after12 (v1 : BitVec 32) : TP F L PUnit := part13 L v1 >>= fun r => after13 L v1 r.1 r.2
def after11 (v1 : BitVec 32) : TP F L PUnit := part12 L v1 >>= fun _ => after12 L v1
def after10 (v1 v58 c : BitVec 32) : TP F L PUnit := part11 L v58 c >>= fun _ => after11 L v1

theorem task_eq : task (F := F) L = (part9 L >>= fun r => part10 L r.1 r.2.1 r.2.2 >>= fun r' => after10 L r.1 r'.1 r'.2) := by
  unfold task after10 after11 after12 after13
  rw [cc0__unpool_body_eq_skeleton]
  unfold cc0__unpool_body_skel
  rfl

/-- What a tile has when all is done. -/
abbrev doneAll (O : CellTallies nD τ sig (HIx 1)) (W : Waits sig (HIx 1)) : sProp 𝕄 :=
  iprop(waitInv d L fT fI O W 8 ∗ idles d L fT (lst L fI) ∗ stores d L ∗ (bigSep (Finset.range 250) fun c => edgePts d L fT fI c)
    ∗ (semVal (thr d L, .dma fSem) 0 ∗ lLoc d L ↦{Transfers.shareDrop fullShare 4} lst L fI))

theorem after12_wp (O : CellTallies nD τ sig (HIx 1)) (W : Waits sig (HIx 1)) (v1 : BitVec 32) :
    iprop((copyInv d L fT fI f0 8 ∗ (semVal (thr d L, .dma fSem) 0 ∗ lLoc d L ↦{Transfers.shareDrop fullShare 4} lst L fI))
        ∗ ((idles d L fT (lst L fI) ∗ (bigSep (Finset.range 246) fun c => edgePts d L fT fI c) ∗ storeIdle d L 0 ∗ edgePts d L fT fI 248)
        ∗ (storing d L fT fI 1 249 ∗ storing d L fT fI 2 246 ∗ storing d L fT fI 3 247) ∗ owing d L O W ∗ mays d L O))
      ⊢ runs d L (after12 (F := F) L v1) fun _ => doneAll d L fT fI O W := by
  unfold after12
  iintro ⟨⟨HC, HF⟩, ⟨HG, He, S0, E8⟩, HS, HO⟩
  iapply (step_wp d L (part13_wp d L fT fI O W _)) $$ [HS HO]
  · isplitl [HS] <;> iassumption
  iintro %r'' ⟨⟨⟨S1, E9⟩, ⟨S2, E6⟩, ⟨S3, E7⟩⟩, HO⟩
  ihave HW := (wait_start d L fT fI f0 O W) $$ [HC HO]
  · isplitl [HC] <;> iassumption
  unfold after13
  iapply (step_wp d L (part14_wp d L fT fI O W _ _ _)) $$ HW
  iintro %_ HW
  iapply (step_wp d L (part15_wp d L fT fI O W _)) $$ HW
  iintro %_ HW
  ihave Hw := (lastWait_wp d L fT fI O W) $$ HW
  iapply (wp_wand frame (wpE (defs₀ (F := F)) 𝒱₀ (thr d L) none)) $$ Hw
  iintro %_ HW
  isplitl [HW]; · iexact HW
  isplitl [HG]; · iexact HG
  isplitl [S0 S1 S2 S3]
  · isplitl [S0]; · iexact S0
    isplitl [S1]; · iexact S1
    isplitl [S2] <;> iassumption
  isplitl [He E6 E7 E8 E9]
  · iapply (edges_all d L fT fI)
    isplitl [He]; · iexact He
    isplitl [E6]; · iexact E6
    isplitl [E7]; · iexact E7
    isplitl [E8] <;> iassumption
  iexact HF

/-- A part beside what it leaves alone, then the rest. -/
theorem then_with {α β : Type} {p : TP F L α} {k : α → TP F L β} {P R : sProp 𝕄} {P' : α → sProp 𝕄} {Q : β → sProp 𝕄} (h : P ⊢ runs d L p P')
    (hk : ∀ a, iprop(R ∗ P' a) ⊢ runs d L (k a) Q) : iprop(R ∗ P) ⊢ runs d L (p >>= k) Q := by
  iintro ⟨HR, H⟩
  iapply (step_wp d L h) $$ H
  iintro %a H
  iapply (hk a)
  isplitl [HR] <;> iassumption

theorem after11_wp (hfI : ∀ x, (fI x).toNat < 20000) (O : CellTallies nD τ sig (HIx 1)) (W : Waits sig (HIx 1)) (v1 : BitVec 32) :
    iprop((copyInv d L fT fI f0 8 ∗ (semVal (thr d L, .dma fSem) 0 ∗ lLoc d L ↦{Transfers.shareDrop fullShare 4} lst L fI))
        ∗ (listed d L fT (lst L fI) ∗ stores d L ∗ undone d L f0 0 ∗ owing d L O W ∗ mays d L O))
      ⊢ runs d L (after11 (F := F) L v1) fun _ => doneAll d L fT fI O W :=
  then_with d L (part12_wp d L fT fI f0 hfI O W v1) fun _ => after12_wp d L fT fI f0 O W v1

set_option maxHeartbeats 4000000 in
theorem after10_wp (hfI : ∀ x, (fI x).toNat < 20000) (O : CellTallies nD τ sig (HIx 1)) (W : Waits sig (HIx 1)) (v1 v58 c : BitVec 32) :
    iprop((stores d L ∗ undone d L f0 0) ∗ (copyInv d L fT fI f0 7 ∗ ((semVal (thr d L, .dma fSem) 0 ∗ (iLoc d ↦[iRow (wid L)]{fullShare} fI) ∗ ∃ f, lLoc d L ↦{fullShare} f)
        ∗ owing d L O W ∗ mays d L O) ∗ raws d L fT))
      ⊢ runs d L (after10 (F := F) L v1 v58 c) fun _ => doneAll d L fT fI O W := by
  have h {A B C D E H : sProp 𝕄} : iprop((A ∗ B) ∗ C ∗ D ∗ E ∗ H) ⊢ iprop((C ∗ D) ∗ H ∗ A ∗ B ∗ E) := by
    iintro ⟨⟨HA, HB⟩, HC, HD, HE, HH⟩
    isplitl [HC HD]
    · isplitl [HC] <;> iassumption
    isplitl [HH]; · iexact HH
    isplitl [HA]; · iexact HA
    isplitl [HB] <;> iassumption
  exact then_with d L (part11_wp d L fT fI f0 hfI O W v58 c) fun _ => h.trans (after11_wp d L fT fI f0 hfI O W v1)

set_option maxHeartbeats 4000000 in
theorem task_wp (hfI : ∀ x, (fI x).toNat < 20000) (O : CellTallies nD τ sig (HIx 1)) (W : Waits sig (HIx 1)) :
    iprop(copyInv d L fT fI f0 0 ∗ ((semVal (thr d L, .dma fSem) 0 ∗ (iLoc d ↦[iRow (wid L)]{fullShare} fI) ∗ ∃ f, lLoc d L ↦{fullShare} f) ∗ owing d L O W ∗ mays d L O)
        ∗ raws d L fT ∗ stores d L ∗ undone d L f0 0)
      ⊢ runs d L (task (F := F) L) fun _ => doneAll d L fT fI O W := by
  rw [task_eq]
  iintro ⟨HC, HF, HR, HS, Hu⟩
  iapply (step_wp d L (part9_wp d L fT fI f0)) $$ HC
  iintro %r HC
  iapply (step_wp d L (part10_wp d L fT fI f0 _ _ _)) $$ HC
  iintro %r' HC
  iapply (after10_wp d L fT fI f0 hfI O W _ _ _)
  isplitl [HS Hu]
  · isplitl [HS] <;> iassumption
  isplitl [HC]; · iexact HC
  isplitl [HF] <;> iassumption

/-! ## The buffers in slots -/

theorem slots_split {ℓ : Loc nD τ sig} (R : ℕ → Finset (Idx ℓ)) (hd : ∀ t ∈ Finset.range 4, ∀ t' ∈ Finset.range 4, t ≠ t' → Disjoint (R t) (R t'))
    (hc : (Finset.range 4).biUnion R = Finset.univ) (f : Buf (Elt F) ℓ) :
    (ℓ ↦{fullShare} f : sProp 𝕄) ⊢ bigSep (Finset.range 4) fun s => iprop(∃ f, ℓ ↦[R s]{fullShare} f) := by
  rw [← hc, pointsTo_biUnion _ _ hd]
  have h (s : ℕ) : (ℓ ↦[R s]{fullShare} f : sProp 𝕄) ⊢ iprop(∃ f, ℓ ↦[R s]{fullShare} f) := by
    iintro H
    iexists f
    iexact H
  exact BI.bigSep_mono fun s _ => h s

theorem slots_join {ℓ : Loc nD τ sig} (R : ℕ → Finset (Idx ℓ)) (hd : ∀ t ∈ Finset.range 4, ∀ t' ∈ Finset.range 4, t ≠ t' → Disjoint (R t) (R t'))
    (hc : (Finset.range 4).biUnion R = Finset.univ) (f₀ : Buf (Elt F) ℓ) :
    (bigSep (Finset.range 4) fun s => iprop(∃ f, ℓ ↦[R s]{fullShare} f) : sProp 𝕄) ⊢ iprop(∃ f : Buf (Elt F) ℓ, ℓ ↦{fullShare} f) := by
  haveI : Nonempty (Buf (Elt F) ℓ) := ⟨f₀⟩
  refine (bigSep_exists_pi _ _).trans ?_
  iintro ⟨%fs, H⟩
  ihave H := (pointsTo_biUnion_join (Finset.range 4) R fs (fs 0) hd) $$ H
  icases H with ⟨%g, -, H⟩
  iexists g
  iapply (Entails.of_eq (show (ℓ ↦[(Finset.range 4).biUnion R]{fullShare} g : sProp 𝕄) = ℓ ↦{fullShare} g by rw [hc]))
  iexact H

theorem gSlot_disj : ∀ t ∈ Finset.range 4, ∀ t' ∈ Finset.range 4, t ≠ t' → Disjoint (gSlot t) (gSlot t') := fun t _ t' _ h =>
  Finset.disjoint_left.mpr fun x h1 h2 => h ((mem_gSlot.mp h1).symm.trans (mem_gSlot.mp h2))
theorem aSlot_disj : ∀ t ∈ Finset.range 4, ∀ t' ∈ Finset.range 4, t ≠ t' → Disjoint (aSlot t) (aSlot t') := fun t _ t' _ h =>
  Finset.disjoint_left.mpr fun x h1 h2 => h ((mem_aSlot.mp h1).symm.trans (mem_aSlot.mp h2))
theorem gSlot_cover : (Finset.range 4).biUnion gSlot = Finset.univ :=
  Finset.eq_univ_of_forall fun x => Finset.mem_biUnion.mpr ⟨(x 0).val, Finset.mem_range.mpr (x 0).isLt, mem_gSlot.mpr rfl⟩
theorem aSlot_cover : (Finset.range 4).biUnion aSlot = Finset.univ :=
  Finset.eq_univ_of_forall fun x => Finset.mem_biUnion.mpr ⟨(x 0).val, Finset.mem_range.mpr (x 0).isLt, mem_aSlot.mpr rfl⟩

/-- The tile's share of the table as a share for each slot and one for each copy. -/
theorem table_shares : (tLoc d ↦{tileShare (wid L)} fT : sProp 𝕄)
    ⊢ iprop((tabPts d L fT 0 ∗ tabPts d L fT 1 ∗ tabPts d L fT 2 ∗ tabPts d L fT 3) ∗ bigSep (from_ (wid L) 0) fun j => tabPts d L fT (4 + j)) := by
  have e : Finset.range 12 = Finset.range 4 ∪ (Finset.range 8).image (4 + ·) := by decide
  have hd : Disjoint (Finset.range 4) ((Finset.range 8).image (4 + ·)) := by decide
  have h : from_ (wid L) 0 ⊆ Finset.range 8 := fun x hx => by
    rw [Finset.mem_filter, Finset.mem_Ico] at hx
    exact Finset.mem_range.mpr hx.1.2
  refine (Transfers.pointsTo_toks_range (tileShare (wid L)) 12).1.trans ?_
  rw [e, SparseCore.bigSep_union' hd, range4, SparseCore.bigSep_image_of_injOn (fun a _ b _ h => Nat.add_left_cancel h)]
  iintro ⟨-, H, Hc⟩
  isplitl [H]; · iexact H
  iapply (show (bigSep (Finset.range 8) fun j => tabPts d L fT (4 + j) : sProp 𝕄) ⊢ bigSep (from_ (wid L) 0) fun j => tabPts d L fT (4 + j) from BI.bigSep_subset h)
  iexact Hc

/-! ## The tile's own semaphores and buffers -/

abbrev semAt (s : DmaSem sig) : sProp 𝕄 := semVal (thr d L, .dma s) 0

theorem sems_eq (P : DmaSem sig → sProp 𝕄) : bigSep (Finset.univ : Finset (DmaSem sig)) P
    = iprop(P (gSem 0) ∗ P (gSem 1) ∗ P (gSem 2) ∗ P (gSem 3) ∗ P (sSem 0) ∗ P (sSem 1) ∗ P (sSem 2) ∗ P (sSem 3) ∗ P cSem ∗ P fSem) := by
  rw [show (Finset.univ : Finset (DmaSem sig)) = insert (gSem 0) (insert (gSem 1) (insert (gSem 2) (insert (gSem 3) (insert (sSem 0) (insert (sSem 1)
      (insert (sSem 2) (insert (sSem 3) (insert cSem {fSem})))))))) from by decide]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), BI.bigSep_singleton]

theorem sem_scoped : ∀ s : DmaSem sig, (SemLoc.dma s : SemLoc sig).isScoped .scVector = true := by decide

abbrev otherCells : Finset (GSem nD τ sig) := SparseCore.Cfg.ownCells (thr d L) \ (Finset.univ : Finset (DmaSem sig)).image fun s => (thr d L, .dma s)

theorem ownSems0_V : (SparseCore.Cfg.ownSems0 (thr d L) : sProp 𝕄)
    = iprop((semAt d L (gSem 0) ∗ semAt d L (gSem 1) ∗ semAt d L (gSem 2) ∗ semAt d L (gSem 3) ∗ semAt d L (sSem 0) ∗ semAt d L (sSem 1) ∗ semAt d L (sSem 2)
        ∗ semAt d L (sSem 3) ∗ semAt d L cSem ∗ semAt d L fSem)
      ∗ bigSep (otherCells d L) fun g => semVal g 0) := by
  unfold SparseCore.Cfg.ownSems0
  rw [SparseCore.bigSep_sdiff_split' (show ((Finset.univ : Finset (DmaSem sig)).image fun s => ((thr d L, .dma s) : GSem nD τ sig)) ⊆ _ from fun x hx => ?_),
    SparseCore.bigSep_image_of_injOn (f := fun s => ((thr d L, .dma s) : GSem nD τ sig)) (fun a _ b _ h => by injection h with _ h; injection h), sems_eq]
  obtain ⟨s, -, rfl⟩ := Finset.mem_image.mp hx
  exact SparseCore.Cfg.mem_ownCells.mpr ⟨rfl, sem_scoped s⟩

abbrev otherRefs : Finset (DevRef τ sig) :=
  (((SparseCore.Cfg.ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)

theorem ref_ne {a b : Ref sig .scVector} (h : a ≠ b) : (Proc.scVector (cV L) (jV L)).devRef a ≠ (Proc.scVector (cV L) (jV L)).devRef b :=
  fun e => h (Proc.devRef_injective _ e)

theorem ownBufs_V : (SparseCore.Cfg.ownBufs (thr d L) : sProp 𝕄)
    = iprop((∃ f, lLoc d L ↦{fullShare} f) ∗ (∃ f, gLoc d L ↦{fullShare} f) ∗ (∃ f, aLoc d L ↦{fullShare} f)
      ∗ bigSep (otherRefs L) fun b => iprop(∃ f, ((d, b) : Loc nD τ sig) ↦{fullShare} f)) := by
  have h (r : Ref sig .scVector) (hr : ((Proc.scVector (cV L) (jV L)).devRef r).owner = .proc (.scVector (cV L) (jV L))) := SparseCore.Cfg.mem_ownRefs_of_owner (p := Proc.scVector (cV L) (jV L))
    (b := (Proc.scVector (cV L) (jV L)).devRef r) hr
  unfold SparseCore.Cfg.ownBufs
  refine (SparseCore.bigSep_erase' (h cc0_scratch0 rfl)).trans ?_
  rw [SparseCore.bigSep_erase' (Finset.mem_erase.mpr ⟨ref_ne L (show (cc0_scratch1 : Ref sig .scVector) ≠ cc0_scratch0 by decide), h cc0_scratch1 rfl⟩),
    SparseCore.bigSep_erase' (Finset.mem_erase.mpr ⟨ref_ne L (show (cc0_scratch2 : Ref sig .scVector) ≠ cc0_scratch1 by decide),
      Finset.mem_erase.mpr ⟨ref_ne L (show (cc0_scratch2 : Ref sig .scVector) ≠ cc0_scratch0 by decide), h cc0_scratch2 rfl⟩⟩)]

end Cert.Proof.Unpool

end
-- ==== Proof.Body.lean ====
/-
  A tile's task, from what the tile is dealt to what it hands back.
-/
module

public import proofs.«01_k».proof.Proof.Task

@[expose] public section

noncomputable section

namespace Cert.Proof.Unpool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (fT : S20000x128.Idx → Elt F .f32) (fI : S32x250x80.Idx → Elt F .i32) (f0 : S340000x128.Idx → Elt F .f32)

/-! ## The task from what the tile is dealt to what it hands back -/

/-- What a tile is dealt: its row of lists, a share of the table, its pieces of the output as found; -/
def dealt : sProp 𝕄 :=
  iprop((iLoc d ↦[iRow (wid L)]{fullShare} fI) ∗ (tLoc d ↦{tileShare (wid L)} fT) ∗ (bigSep (from_ (wid L) 0) fun j => rowsFound d L f0 j) ∗ undone d L f0 0)
/-- and what it hands back: its pieces at their final contents. -/
def handed : sProp 𝕄 :=
  iprop((bigSep (from_ (wid L) 0) fun j => rowsCopied d L fT fI j) ∗ bigSep (Finset.range 250) fun c => edgePts d L fT fI c)

theorem idles_raws (fl : S250x80.Idx → Elt F .i32) : idles d L fT fl
    ⊢ iprop((semAt d L (gSem 0) ∗ semAt d L (gSem 1) ∗ semAt d L (gSem 2) ∗ semAt d L (gSem 3))
      ∗ (bigSep (Finset.range 4) fun s => iprop(∃ f, gLoc d L ↦[gSlot s]{fullShare} f)) ∗ bigSep (Finset.range 4) fun s => lstPts d L fl s) := by
  rw [range4, range4]
  unfold idles gatherIdle
  iintro ⟨⟨V0, G0, -, L0⟩, ⟨V1, G1, -, L1⟩, ⟨V2, G2, -, L2⟩, ⟨V3, G3, -, L3⟩⟩
  isplitl [V0 V1 V2 V3]
  · isplitl [V0]; · iexact V0
    isplitl [V1]; · iexact V1
    isplitl [V2] <;> iassumption
  isplitl [G0 G1 G2 G3]
  · isplitl [G0]; · iexact G0
    isplitl [G1]; · iexact G1
    isplitl [G2]; · iexact G2
    iexact G3
  · isplitl [L0]; · iexact L0
    isplitl [L1]; · iexact L1
    isplitl [L2]; · iexact L2
    iexact L3

theorem stores_raws : (stores (F := F) d L : sProp 𝕄)
    ⊣⊢ iprop((semAt d L (sSem 0) ∗ semAt d L (sSem 1) ∗ semAt d L (sSem 2) ∗ semAt d L (sSem 3))
      ∗ (bigSep (Finset.range 4) fun s => iprop(∃ f, aLoc d L ↦[aSlot s]{fullShare} f))) := by
  rw [range4]
  unfold stores storeIdle
  constructor
  · iintro ⟨⟨V0, G0⟩, ⟨V1, G1⟩, ⟨V2, G2⟩, ⟨V3, G3⟩⟩
    isplitl [V0 V1 V2 V3]
    · isplitl [V0]; · iexact V0
      isplitl [V1]; · iexact V1
      isplitl [V2] <;> iassumption
    isplitl [G0]; · iexact G0
    isplitl [G1]; · iexact G1
    isplitl [G2]; · iexact G2
    iexact G3
  · iintro ⟨⟨V0, V1, V2, V3⟩, ⟨G0, G1, G2, G3⟩⟩
    isplitl [V0 G0]; · isplitl [V0]; · iexact V0
                       iexact G0
    isplitl [V1 G1]; · isplitl [V1]; · iexact V1
                       iexact G1
    isplitl [V2 G2]; · isplitl [V2]; · iexact V2
                       iexact G2
    isplitl [V3]; · iexact V3
    iexact G3

theorem raws_of : iprop((semAt d L (gSem 0) ∗ semAt d L (gSem 1) ∗ semAt d L (gSem 2) ∗ semAt d L (gSem 3))
      ∗ (bigSep (Finset.range 4) fun s => iprop(∃ f, gLoc d L ↦[gSlot s]{fullShare} f)) ∗ (tabPts d L fT 0 ∗ tabPts d L fT 1 ∗ tabPts d L fT 2 ∗ tabPts d L fT 3))
    ⊢ raws d L fT := by
  rw [range4]
  iintro ⟨⟨V0, V1, V2, V3⟩, ⟨G0, G1, G2, G3⟩, T0, T1, T2, T3⟩
  isplitl [V0 G0 T0]
  · isplitl [V0]; · iexact V0
    isplitl [G0]; · iexact G0
    iexact T0
  isplitl [V1 G1 T1]
  · isplitl [V1]; · iexact V1
    isplitl [G1]; · iexact G1
    iexact T1
  isplitl [V2 G2 T2]
  · isplitl [V2]; · iexact V2
    isplitl [G2]; · iexact G2
    iexact T2
  · isplitl [V3]; · iexact V3
    isplitl [G3]; · iexact G3
    iexact T3

theorem list_back (fl : S250x80.Idx → Elt F .i32) : iprop((lLoc d L ↦{Transfers.shareDrop fullShare 4} fl) ∗ bigSep (Finset.range 4) fun s => lstPts d L fl s)
    ⊢ iprop(∃ f, lLoc d L ↦{fullShare} f) := by
  iintro H
  iexists fl
  iapply (list_shares d L fl).2
  iexact H

theorem copy_start : iprop(Transfers.Batch countersEmb (thr d L) (.dma cSem) (default : HIx 1) credC (copied d L fT fI) 0 0
      ∗ (bigSep (from_ (wid L) 0) fun j => rowsFound d L f0 j) ∗ bigSep (from_ (wid L) 0) fun j => tabPts d L fT (4 + j))
    ⊢ copyInv d L fT fI f0 0 := by
  unfold copyInv
  rw [show before (wid L) 0 = 0 from by unfold before; split <;> rfl, BI.bigSep_sep']

theorem wait_over (O : CellTallies nD τ sig (HIx 1)) (W : Waits sig (HIx 1)) : waitInv d L fT fI O W 8
    ⊢ iprop(Transfers.Batch countersEmb (thr d L) (.dma cSem) (default : HIx 1) credC (copied d L fT fI) (before (wid L) 8) (before (wid L) 8 * credC)
      ∗ ∃ W', ⌜∀ p ∈ W', p ∈ W ∨ p.2 = none⌝ ∗ owes (thr d L) O W') := by
  unfold waitInv owing
  iintro ⟨HB, HO, -⟩
  isplitl [HB] <;> iassumption

set_option maxHeartbeats 8000000 in
theorem tile_body (hF : (K (F := F)).Facts) (hfI : ∀ x, (fI x).toNat < 20000) (O : CellTallies nD τ sig (HIx 1)) (W : Waits sig (HIx 1)) (hO : ∀ g, O g none = 0) :
    iprop(levAts (K (F := F)).L (K (F := F)).lev ∗ emp ∗ dealt d L fT fI f0 ∗ scopedBufs (thr d L) ∗ scopedSems0 (thr d L) ∗ owes (thr d L) O W)
      ⊢ wp frame (wpE (defs₀ (F := F)) 𝒱₀ (thr d L) none) Set.univ (task (F := F) L)
          fun _ => iprop(handed d L fT fI ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold dealt handed
  iintro ⟨#Hlv, -, ⟨Hi, Ht, Hr, Hu⟩, ⟨Hl, ⟨%fg, Hg⟩, ⟨%fa, Ha⟩, Hbufs⟩, ⟨⟨V0, V1, V2, V3, U0, U1, U2, U3, VC, VF⟩, Hsems⟩, HO⟩
  ihave Hmw := (show levAts (K (F := F)).L (K (F := F)).lev ⊢ Transfers.MayWaits (thr d L) (default : HIx 1) O from
    (K (F := F)).mayWaits_none (thr := thr d L) hO) $$ Hlv
  imod (Transfers.batch_alloc' countersEmb (thr d L) (sm := .dma cSem) (default : HIx 1) credC (copied d L fT fI) (E := Set.univ)) $$ VC with HB
  ihave Ht := (table_shares d L fT) $$ Ht
  icases Ht with ⟨Ht, Htc⟩
  ihave Hg := (slots_split (ℓ := gLoc d L) gSlot gSlot_disj gSlot_cover fg) $$ Hg
  ihave Ha := (slots_split (ℓ := aLoc d L) aSlot aSlot_disj aSlot_cover fa) $$ Ha
  ihave HC := (copy_start d L fT fI f0) $$ [HB Hr Htc]
  · isplitl [HB]; · iexact HB
    isplitl [Hr] <;> iassumption
  ihave HR := (raws_of d L fT) $$ [V0 V1 V2 V3 Hg Ht]
  · isplitl [V0 V1 V2 V3]
    · isplitl [V0]; · iexact V0
      isplitl [V1]; · iexact V1
      isplitl [V2] <;> iassumption
    isplitl [Hg] <;> iassumption
  ihave HS := (stores_raws d L).2 $$ [U0 U1 U2 U3 Ha]
  · isplitl [U0 U1 U2 U3]
    · isplitl [U0]; · iexact U0
      isplitl [U1]; · iexact U1
      isplitl [U2] <;> iassumption
    iexact Ha
  ihave HO := (owing_start d L O W) $$ HO
  ihave Hw := (task_wp d L fT fI f0 hfI O W) $$ [HC VF Hi Hl HO HR HS Hu]
  · isplitl [HC]; · iexact HC
    isplitl [VF Hi Hl HO]
    · isplitl [VF Hi Hl]
      · isplitl [VF]; · iexact VF
        isplitl [Hi] <;> iassumption
      isplitl [HO]; · iexact HO
      iexact Hmw
    isplitl [HR]; · iexact HR
    isplitl [HS] <;> iassumption
  iapply (wp_fupd frame (wpE (defs₀ (F := F)) 𝒱₀ (thr d L) none) Set.univ)
  iapply (wp_wand frame (wpE (defs₀ (F := F)) 𝒱₀ (thr d L) none)) $$ Hw
  iintro %_ ⟨HW, HG, HS, He, VF, Hl⟩
  ihave HG := (idles_raws d L fT (lst L fI)) $$ HG
  icases HG with ⟨⟨V0, V1, V2, V3⟩, Hg, Hls⟩
  ihave HS := (stores_raws d L).1 $$ HS
  icases HS with ⟨⟨U0, U1, U2, U3⟩, Ha⟩
  ihave Hg := (slots_join (ℓ := gLoc d L) gSlot gSlot_disj gSlot_cover fg) $$ Hg
  ihave Ha := (slots_join (ℓ := aLoc d L) aSlot aSlot_disj aSlot_cover fa) $$ Ha
  ihave Hl := (list_back d L (lst L fI)) $$ [Hl Hls]
  · isplitl [Hl] <;> iassumption
  ihave HW := (wait_over d L fT fI O W) $$ HW
  icases HW with ⟨HB, HO⟩
  imod (copies_done d L fT fI) $$ HB with ⟨Hr, VC⟩
  imodintro
  isplitl [Hr He]
  · isplitl [Hr] <;> iassumption
  isplitl [Hl Hg Ha Hbufs]
  · isplitl [Hl]; · iexact Hl
    isplitl [Hg]; · iexact Hg
    isplitl [Ha] <;> iassumption
  isplitl [V0 V1 V2 V3 U0 U1 U2 U3 VC VF Hsems]
  · isplitr [Hsems]; swap
    · iexact Hsems
    isplitl [V0]; · iexact V0
    isplitl [V1]; · iexact V1
    isplitl [V2]; · iexact V2
    isplitl [V3]; · iexact V3
    isplitl [U0]; · iexact U0
    isplitl [U1]; · iexact U1
    isplitl [U2]; · iexact U2
    isplitl [U3]; · iexact U3
    isplitl [VC] <;> iassumption
  iexact HO

end Cert.Proof.Unpool

end
-- ==== Proof.Split.lean ====
/-
  How the three arrays split among the thirty-two tiles and join again: each tile has its row numbers, a share of the
  table, and the output's rows that it writes.
-/
module

public import proofs.«01_k».proof.Proof.Body

@[expose] public section

noncomputable section

namespace Cert.Proof.Unpool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD)
variable (fT : S20000x128.Idx → Elt F .f32) (fI : S32x250x80.Idx → Elt F .i32) (f0 : S340000x128.Idx → Elt F .f32)

/-! ## The output's rows by tiles -/

/-- The output's rows that tile `w` copies, -/
def copiesOf (w : ℕ) : Finset S340000x128.Idx := (from_ w 0).biUnion fun j => oRows (dstRow w j) 80
/-- the rows that it averages, -/
def edgesOf (w : ℕ) : Finset S340000x128.Idx := (Finset.range 250).biUnion fun c => oRows (outRow w c) 40
/-- and both. -/
def rowsOf (w : ℕ) : Finset S340000x128.Idx := copiesOf w ∪ edgesOf w

theorem mem_copiesOf {w : ℕ} (hw : w < 32) {x : S340000x128.Idx} :
    x ∈ copiesOf w ↔ (x 0).val % 170000 < 10000 ∧ (x 0).val % 170000 / 80 % 32 = w := by
  have hx : (x 0).val < 340000 := (x 0).isLt
  unfold copiesOf
  simp only [Finset.mem_biUnion, mem_oRows, Finset.mem_filter, Finset.mem_Ico]
  generalize (x 0).val = r at *
  unfold dstRow Has
  constructor
  · rintro ⟨j, ⟨⟨-, hj⟩, ha⟩, h1, h2⟩
    generalize hb : w + 32 * (j % 4) = b at *
    have e1 : r % 170000 / 80 = b := by omega
    refine ⟨by omega, ?_⟩
    rw [e1]; omega
  · rintro ⟨h1, h2⟩
    refine ⟨r / 170000 * 4 + r % 170000 / 80 / 32, ⟨⟨Nat.zero_le _, by omega⟩, ?_⟩, ?_, ?_⟩
    · have : (r / 170000 * 4 + r % 170000 / 80 / 32) % 4 = r % 170000 / 80 / 32 := by omega
      rw [this]; omega
    · have e : (r / 170000 * 4 + r % 170000 / 80 / 32) % 4 = r % 170000 / 80 / 32 := by omega
      have e' : (r / 170000 * 4 + r % 170000 / 80 / 32) / 4 = r / 170000 := by omega
      rw [e, e']; omega
    · have e : (r / 170000 * 4 + r % 170000 / 80 / 32) % 4 = r % 170000 / 80 / 32 := by omega
      have e' : (r / 170000 * 4 + r % 170000 / 80 / 32) / 4 = r / 170000 := by omega
      rw [e, e']; omega

theorem mem_edgesOf {w : ℕ} (hw : w < 32) {x : S340000x128.Idx} :
    x ∈ edgesOf w ↔ 10000 ≤ (x 0).val % 170000 ∧ ((x 0).val % 170000 - 10000) / 5000 = w := by
  have hx : (x 0).val < 340000 := (x 0).isLt
  unfold edgesOf
  simp only [Finset.mem_biUnion, mem_oRows, Finset.mem_range]
  generalize (x 0).val = r at *
  constructor
  · rintro ⟨c, hc, h1, h2⟩
    unfold outRow at h1 h2
    have hb : c % 2 < 2 := Nat.mod_lt _ (by omega)
    have ha : c / 2 < 125 := by omega
    generalize c / 2 = a at *
    generalize c % 2 = b at *
    have e : r / 170000 = b := by omega
    omega
  · rintro ⟨h1, h2⟩
    refine ⟨2 * ((r % 170000 - 10000) % 5000 / 40) + r / 170000, by omega, ?_, ?_⟩ <;> (unfold outRow; omega)

theorem mem_rowsOf {w : ℕ} (hw : w < 32) {x : S340000x128.Idx} : x ∈ rowsOf w
    ↔ ((x 0).val % 170000 < 10000 ∧ (x 0).val % 170000 / 80 % 32 = w) ∨ (10000 ≤ (x 0).val % 170000 ∧ ((x 0).val % 170000 - 10000) / 5000 = w) := by
  unfold rowsOf
  rw [Finset.mem_union, mem_copiesOf hw, mem_edgesOf hw]

theorem copies_disj (w : ℕ) (hw : w < 32) : ∀ j ∈ from_ w 0, ∀ j' ∈ from_ w 0, j ≠ j' → Disjoint (oRows (dstRow w j) 80) (oRows (dstRow w j') 80) := by
  intro j hj j' hj' hne
  rw [Finset.disjoint_left]
  intro x h h'
  rw [mem_oRows] at h h'
  simp only [Finset.mem_filter, Finset.mem_Ico] at hj hj'
  unfold dstRow at h h'
  unfold Has at hj hj'
  omega

theorem edges_disj (w : ℕ) : ∀ c ∈ Finset.range 250, ∀ c' ∈ Finset.range 250, c ≠ c' → Disjoint (oRows (outRow w c) 40) (oRows (outRow w c') 40) := by
  intro c hc c' hc' hne
  rw [Finset.disjoint_left]
  intro x h h'
  rw [mem_oRows] at h h'
  rw [Finset.mem_range] at hc hc'
  unfold outRow at h h'
  omega

theorem copies_edges_disj (w : ℕ) (hw : w < 32) : Disjoint (copiesOf w) (edgesOf w) := by
  rw [Finset.disjoint_left]
  intro x h h'
  rw [mem_copiesOf hw] at h
  rw [mem_edgesOf hw] at h'
  omega

theorem rows_disj : ∀ w ∈ Finset.range 32, ∀ w' ∈ Finset.range 32, w ≠ w' → Disjoint (rowsOf w) (rowsOf w') := by
  intro w hw w' hw' hne
  rw [Finset.mem_range] at hw hw'
  rw [Finset.disjoint_left]
  intro x h h'
  rw [mem_rowsOf hw] at h
  rw [mem_rowsOf hw'] at h'
  omega

theorem rows_cover : (Finset.range 32).biUnion rowsOf = Finset.univ := by
  ext x
  have hx : (x 0).val < 340000 := (x 0).isLt
  simp only [Finset.mem_biUnion, Finset.mem_range, Finset.mem_univ, iff_true]
  by_cases h : (x 0).val % 170000 < 10000
  · exact ⟨(x 0).val % 170000 / 80 % 32, by omega, (mem_rowsOf (by omega)).2 (.inl ⟨h, rfl⟩)⟩
  · exact ⟨((x 0).val % 170000 - 10000) / 5000, by omega, (mem_rowsOf (by omega)).2 (.inr ⟨by omega, rfl⟩)⟩

/-- The output, by tiles, copies and chunks. -/
theorem out_split (f : S340000x128.Idx → Elt F .f32) : (oLoc d ↦{fullShare} f : sProp 𝕄)
    = bigSep (Finset.range 32) fun w => iprop((bigSep (from_ w 0) fun j => oLoc d ↦[oRows (dstRow w j) 80]{fullShare} f)
      ∗ bigSep (Finset.range 250) fun c => oLoc d ↦[oRows (outRow w c) 40]{fullShare} f) := by
  have h1 : (oLoc d ↦{fullShare} f : sProp 𝕄) = bigSep (Finset.range 32) fun w => oLoc d ↦[rowsOf w]{fullShare} f := by
    rw [← pointsTo_biUnion (Finset.range 32) (ℓ := oLoc d) rowsOf rows_disj, rows_cover]
  rw [h1]
  refine bigSep_congr fun w hw => ?_
  have hw := Finset.mem_range.mp hw
  have h2 : (oLoc d ↦[rowsOf w]{fullShare} f : sProp 𝕄) = iprop((oLoc d ↦[copiesOf w]{fullShare} f) ∗ oLoc d ↦[edgesOf w]{fullShare} f) :=
    BI.Entails.antisymm (pointsTo_union (copies_edges_disj w hw)).1 (pointsTo_union (copies_edges_disj w hw)).2
  refine Eq.trans h2 ?_
  unfold copiesOf edgesOf
  rw [pointsTo_biUnion (from_ w 0) (ℓ := oLoc d) _ (copies_disj w hw), pointsTo_biUnion (Finset.range 250) (ℓ := oLoc d) _ (edges_disj w)]

/-! ## The row numbers by tiles -/

theorem idx_cover : (Finset.range 32).biUnion iRow = Finset.univ := by
  ext x
  simp only [Finset.mem_biUnion, Finset.mem_range, Finset.mem_univ, iff_true]
  exact ⟨(x 0).val, (x 0).isLt, mem_iRow.mpr rfl⟩

theorem idx_split : (iLoc d ↦{fullShare} fI : sProp 𝕄) = bigSep (Finset.range 32) fun w => iLoc d ↦[iRow w]{fullShare} fI := by
  rw [← pointsTo_biUnion (Finset.range 32) (ℓ := iLoc d) iRow (fun w _ w' _ hne => by
    rw [Finset.disjoint_left]
    intro x h h'
    exact hne ((mem_iRow.mp h).symm.trans (mem_iRow.mp h'))), idx_cover]

/-! ## The tiles by core and subcore -/

/-- The grid's coordinates of a core's tile. -/
def coordsV (c : Fin (grid0.bound 0)) (s : Fin (grid0.bound 1)) : grid0.Coords :=
  fun | 0 => c | 1 => s | ⟨_ + 2, h⟩ => absurd h (Nat.not_lt.2 (Nat.le_add_left _ _))

theorem by_core (Φ : ℕ → sProp 𝕄) :
    bigSep (Finset.range 32) Φ = bigSep Finset.univ fun c : Fin 2 => bigSep Finset.univ fun s : Fin 16 => Φ (2 * s.val + c.val) := by
  rw [← BI.bigSep_univ_prod fun p : Fin 2 × Fin 16 => Φ (2 * p.2.val + p.1.val),
    ← SparseCore.bigSep_image_of_injOn (f := fun p : Fin 2 × Fin 16 => 2 * p.2.val + p.1.val)]
  · congr 1
    ext w
    simp only [Finset.mem_range, Finset.mem_image, Finset.mem_univ, true_and]
    constructor
    · intro h
      exact ⟨(⟨w % 2, by omega⟩, ⟨w / 2, by omega⟩), by show 2 * (w / 2) + w % 2 = w; omega⟩
    · rintro ⟨⟨c, s⟩, rfl⟩
      have := c.isLt; have := s.isLt
      show 2 * s.val + c.val < 32
      omega
  · rintro ⟨c, s⟩ - ⟨c', s'⟩ - h
    have := c.isLt; have := c'.isLt
    replace h : 2 * s.val + c.val = 2 * s'.val + c'.val := h
    exact Prod.ext (Fin.ext (show c.val = c'.val by omega)) (Fin.ext (show s.val = s'.val by omega))

/-- The three arrays, dealt to the tiles. -/
theorem deal : iprop((tLoc d ↦{fullShare} fT) ∗ (iLoc d ↦{fullShare} fI) ∗ oLoc d ↦{fullShare} f0)
    ⊢ bigSep Finset.univ fun c : Fin 2 => bigSep Finset.univ fun s : Fin 16 => dealt d (coordsV c s) fT fI f0 := by
  have e : (bigSep Finset.univ fun c : Fin 2 => bigSep Finset.univ fun s : Fin 16 => dealt d (coordsV c s) fT fI f0)
      = bigSep (Finset.range 32) fun w => iprop((iLoc d ↦[iRow w]{fullShare} fI) ∗ (tLoc d ↦{tileShare w} fT)
        ∗ (bigSep (from_ w 0) fun j => oLoc d ↦[oRows (dstRow w j) 80]{fullShare} f0)
        ∗ bigSep (Finset.range 250) fun c => (oLoc d ↦[oRows (outRow w c) 40]{fullShare} f0 : sProp 𝕄)) := by
    rw [by_core]
    rw [Finset.range_eq_Ico]
    rfl
  rw [e, BI.bigSep_sep', BI.bigSep_sep', out_split, idx_split]
  iintro ⟨Ht, Hi, Ho⟩
  ihave Ht := (Transfers.pointsTo_toks_range fullShare 32).1 $$ Ht
  icases Ht with ⟨-, Ht⟩
  isplitl [Hi]; · iexact Hi
  isplitl [Ht]; · iexact Ht
  iexact Ho

/-- What the tiles hand back is the output at its final contents. -/
theorem gather_back : (bigSep Finset.univ fun c : Fin 2 => bigSep Finset.univ fun s : Fin 16 => handed d (coordsV c s) fT fI)
    ⊢ (oLoc d ↦{fullShare} outVal fT fI : sProp 𝕄) := by
  refine Entails.of_eq ?_
  rw [out_split, by_core]
  rfl

end Cert.Proof.Unpool

end
-- ==== Proof.Launch.lean ====
/-
  The whole program's run: the host operations before the call, the call on the two SparseCores' thirty-two tiles, the
  reshape after it. It ends with the arguments unchanged, every counter at zero and the result at `outVal`, reshaped.
-/
module

public import proofs.«01_k».proof.Proof.Split
public import Idealize.ShloMosaic.Lib.SparseCore.Quiescent
public import Idealize.ShloMosaic.Lib.Pipeline.Frame

@[expose] public section

noncomputable section

namespace Cert.Proof.Unpool

open Cert.KernelIdeal Cert.KernelIdeal.Gen
open Idealize.ShloMosaic
open Idealize.ShloMosaic.SparseCore (S V T)
open Idealize.ShloMosaic.SparseCore.Cfg (HIx Pay)
open Idealize.ShloMosaic.StableHlo (seq after held held_sub_split launchContents wp_seq wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host operations -/

/-- A reference of the TensorCore's as a buffer of the device. -/
abbrev buf (b : Ref sig .tc) : DevRef τ sig := Proc.devRef .tc b

/-- The operations before the call. -/
abbrev opsBefore : List (HloOp τ sig (Elt F)) :=
  [ StableHlo.reshape main_arg1 main_v0 (rfl : (.i32 : EltTy) = .i32) shapeCasts_S160000x2_S32x125x80,
    StableHlo.nullary main_c (constantI S_ 32 10000#32),
    StableHlo.unary main_c main_v1 (broadcastInDim S32x125x80 ![] bcast_S_S32x125x80 : (⟨S_, .i32⟩ : BufTy).Contents (Elt F) → (⟨S32x125x80, .i32⟩ : BufTy).Contents (Elt F)),
    StableHlo.binary main_v0 main_v1 main_v2 (addi : (⟨S32x125x80, .i32⟩ : BufTy).Contents (Elt F) → (⟨S32x125x80, .i32⟩ : BufTy).Contents (Elt F) → (⟨S32x125x80, .i32⟩ : BufTy).Contents (Elt F)),
    StableHlo.unary main_v0 main_v3 (broadcastInDim S32x125x1x80 ![0, 1, 3] bcast_S32x125x80_S32x125x1x80_0_1_3 : (⟨S32x125x80, .i32⟩ : BufTy).Contents (Elt F) → (⟨S32x125x1x80, .i32⟩ : BufTy).Contents (Elt F)),
    StableHlo.unary main_v2 main_v4 (broadcastInDim S32x125x1x80 ![0, 1, 3] bcast_S32x125x80_S32x125x1x80_0_1_3 : (⟨S32x125x80, .i32⟩ : BufTy).Contents (Elt F) → (⟨S32x125x1x80, .i32⟩ : BufTy).Contents (Elt F)),
    StableHlo.binary main_v3 main_v4 main_v5 ((fun a b => concatenate S32x125x2x80 2 [⟨S32x125x1x80, a⟩, ⟨S32x125x1x80, b⟩] concatenates_S32x125x1x80_S32x125x1x80_S32x125x2x80_d2) : (⟨S32x125x1x80, .i32⟩ : BufTy).Contents (Elt F) → (⟨S32x125x1x80, .i32⟩ : BufTy).Contents (Elt F) → (⟨S32x125x2x80, .i32⟩ : BufTy).Contents (Elt F)),
    StableHlo.reshape main_v5 main_v6 (rfl : (.i32 : EltTy) = .i32) shapeCasts_S32x125x2x80_S32x250x80,
    StableHlo.reshape main_arg0 main_v7 (rfl : (.f32 : EltTy) = .f32) shapeCasts_S2x10000x128_S20000x128 ]

/-- The operation after it. -/
abbrev opAfter : HloOp τ sig (Elt F) := StableHlo.reshape main_v8 main_v9 (rfl : (.f32 : EltTy) = .f32) shapeCasts_S340000x128_S2x170000x128

theorem main_cut (d : Dev nD) : main (F := F) d
    = seq opsBefore >>= fun _ => sc.run d 0 >>= fun _ => hlo rfl opAfter (fun _ => .ret PUnit.unit) >>= fun _ => pure PUnit.unit := rfl

theorem opsBefore_sub : (opsBefore : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.unary_bufs_sub ..,
    StableHlo.unary_bufs_sub .., StableHlo.binary_bufs_sub .., StableHlo.reshape_bufs_sub .., StableHlo.reshape_bufs_sub ..⟩

theorem opsBefore_fresh : ∀ op ∈ (opsBefore : List (HloOp τ sig (Elt F))), op.fresh = ∅ := by
  intro _ h
  (repeat (cases h with | head => rfl | tail _ h => ?_)); exact nomatch h

/-- What the arrays hold before the call, -/
def before_ (d : Dev nD) : Valuation τ sig (Elt F) := after opsBefore (launchContents m d)
/-- the table, the row numbers and the output's buffer among them. -/
def tabOf (d : Dev nD) : S20000x128.Idx → Elt F .f32 := before_ m d (buf main_v7)
def idxOf (d : Dev nD) : S32x250x80.Idx → Elt F .i32 := before_ m d (buf main_v6)
def outOf (d : Dev nD) : S340000x128.Idx → Elt F .f32 := before_ m d (buf main_v8)
/-- The result's contents at the end. -/
def resultOf (d : Dev nD) : S2x170000x128.Idx → Elt F .f32 := shapeCast S2x170000x128 (outVal (tabOf m d) (idxOf m d)) shapeCasts_S340000x128_S2x170000x128

theorem before_arg0 (d : Dev nD) : before_ m d (buf main_arg0) = m ((SparseCore.T d).loc main_arg0) := by
  unfold before_; after_results <;> rfl
theorem before_arg1 (d : Dev nD) : before_ m d (buf main_arg1) = m ((SparseCore.T d).loc main_arg1) := by
  unfold before_; after_results <;> rfl

/-- What the run asks of the row numbers: each names a row of the table. -/
def InRows : Prop := ∀ (d : Dev nD) (x : S32x250x80.Idx), (idxOf m d x).toNat < 20000

/-! ## What the handshakes carry -/

@[irreducible] def dealtTo (d : Dev nD) (c : Fin 2) (s : Fin 16) : sProp 𝕄 := dealt d (coordsV c s) (tabOf m d) (idxOf m d) (outOf m d)
@[irreducible] def handedBy (d : Dev nD) (c : Fin 2) (s : Fin 16) : sProp 𝕄 := handed d (coordsV c s) (tabOf m d) (idxOf m d)

/-- A SparseCore takes what its tiles are dealt and brings what they hand back. -/
@[irreducible] def taken (d : Dev nD) (c : Fin 2) : sProp 𝕄 := bigSep Finset.univ fun s => dealtTo m d c s
@[irreducible] def brought (d : Dev nD) (c : Fin 2) : sProp 𝕄 := bigSep Finset.univ fun s => handedBy m d c s

/-- What travels with the handshakes. -/
def P : (K (F := F)).Pay (nD := nD) (Val := Elt F) (Name := ℕ) (U := UU) where
  st := fun q d c => match q with | 0 => taken m d (Fin.cast nCore_zero c)
  dn := fun q d c => match q with | 0 => brought m d (Fin.cast nCore_zero c)
  go := fun q d c i => match q with | 0 => dealtTo m d (Fin.cast nCore_zero c) (Fin.cast nSub_zero i)
  td := fun q d c i => match q with | 0 => handedBy m d (Fin.cast nCore_zero c) (Fin.cast nSub_zero i)
  x := fun _ _ => iprop(emp)

instance dealtTo_storable (d : Dev nD) (c : Fin 2) (s : Fin 16) : BI.Storable (upEmb : UEmb _ 𝕄) (dealtTo m d c s) := by
  unfold dealtTo dealt; infer_instance
instance handedBy_storable (d : Dev nD) (c : Fin 2) (s : Fin 16) : BI.Storable (upEmb : UEmb _ 𝕄) (handedBy m d c s) := by
  unfold handedBy handed; infer_instance

instance taken_storable (d : Dev nD) (c : Fin 2) : BI.Storable (upEmb : UEmb _ 𝕄) (taken m d c) := by
  unfold taken; infer_instance
instance brought_storable (d : Dev nD) (c : Fin 2) : BI.Storable (upEmb : UEmb _ 𝕄) (brought m d c) := by
  unfold brought; infer_instance

instance P_storable : (P (F := F) m).IsStorable where
  st q d c := match q with
    | 0 => (inferInstance : BI.Storable (upEmb : UEmb _ 𝕄) (taken m d (Fin.cast nCore_zero c)))
  dn q d c := match q with
    | 0 => (inferInstance : BI.Storable (upEmb : UEmb _ 𝕄) (brought m d (Fin.cast nCore_zero c)))
  go q d c i := match q with
    | 0 => (inferInstance : BI.Storable (upEmb : UEmb _ 𝕄) (dealtTo m d (Fin.cast nCore_zero c) (Fin.cast nSub_zero i)))
  td q d c i := match q with
    | 0 => (inferInstance : BI.Storable (upEmb : UEmb _ 𝕄) (handedBy m d (Fin.cast nCore_zero c) (Fin.cast nSub_zero i)))

/-! ## The tiles' obligation -/

theorem defs₀_vector (c : Fin τ.nSC) (s : Fin τ.nSub) :
    defs₀ (F := F) (.scVector c s) 0 () = SparseCore.onTile hcore0 hsub0 (fun c s => task (F := F) (coordsV c s)) ⟨⟩ c s := rfl

/-- What a tile waited for, as the launch asks it. -/
theorem weaken_waits {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'
  isplitr
  · ipureintro
    exact fun p hp => (hW' p hp).imp_right Or.inl
  · iexact HO

theorem P_go (d : Dev nD) (c : Fin ((K (F := F)).nCore 0)) (i : Fin ((K (F := F)).nSub 0)) : (P m).go 0 d c i
    = dealt d (coordsV (Fin.cast nCore_zero c) (Fin.cast nSub_zero i)) (tabOf m d) (idxOf m d) (outOf m d) := by
  unfold P dealtTo; rfl
theorem P_td (d : Dev nD) (c : Fin ((K (F := F)).nCore 0)) (i : Fin ((K (F := F)).nSub 0)) : (P m).td 0 d c i
    = handed d (coordsV (Fin.cast nCore_zero c) (Fin.cast nSub_zero i)) (tabOf m d) (idxOf m d) := by
  unfold P handedBy; rfl

set_option maxRecDepth 16384 in
theorem tileObl (h : InRows m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  rw [P_go, P_td]
  exact (tile_body d (coordsV ⟨_, hci.1⟩ ⟨_, hci.2⟩) (tabOf m d) (idxOf m d) (outOf m d) launchFacts (h d) O W hO).trans
    (wp_mono frame _ _ fun _ => weaken_waits)

/-- Numbering the members of a family by an equal count changes nothing. -/
theorem bigSep_cast {n k : ℕ} (h : n = k) (Φ : Fin k → sProp 𝕄) : (bigSep Finset.univ fun c : Fin n => Φ (Fin.cast h c)) = bigSep Finset.univ Φ := by
  subst h; rfl

theorem go_eq (d : Dev nD) (c : Fin ((K (F := F)).nCore 0)) : (bigSep Finset.univ fun i : Fin ((K (F := F)).nSub 0) => (P m).go 0 d c i)
    = taken m d (Fin.cast nCore_zero c) := (bigSep_cast nSub_zero (dealtTo m d (Fin.cast nCore_zero c))).trans (by unfold taken; rfl)
theorem td_eq (d : Dev nD) (c : Fin ((K (F := F)).nCore 0)) : (bigSep Finset.univ fun i : Fin ((K (F := F)).nSub 0) => (P m).td 0 d c i)
    = brought m d (Fin.cast nCore_zero c) := (bigSep_cast nSub_zero (handedBy m d (Fin.cast nCore_zero c))).trans (by unfold brought; rfl)

/-- The SparseCore's operands are its tiles'. -/
theorem vecSplit : (K (F := F)).VecSplit' (P m) 0 := by
  intro d c
  show taken m d (Fin.cast nCore_zero c) ⊢ |={Set.univ}=> iprop((bigSep Finset.univ fun i : Fin ((K (F := F)).nSub 0) => (P m).go 0 d c i)
    ∗ ((bigSep Finset.univ fun i : Fin ((K (F := F)).nSub 0) => (P m).td 0 d c i) -∗ brought m d (Fin.cast nCore_zero c)))
  rw [go_eq, td_eq]
  iintro H
  imodintro
  isplitl [H]; · iexact H
  iintro H
  iexact H

/-! ## The launch's ghost state -/

def u₀ : UU := (initOf (K (F := F)).hsCells (K (F := F)).hsToks, 1)

theorem bigSep_emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emps]; iempintro
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), bigSep_emps]
  iempintro

/-! ## The program on the TensorCore -/

/-- The arrays that matter from the call on. -/
abbrev kept : Finset (DevRef τ sig) := {buf main_v7, buf main_v6, buf main_v8, buf main_v9, buf main_arg0, buf main_arg1}

theorem kept_sub : kept ⊆ Pipeline.ucRefs τ sig := by decide

theorem held_kept (d : Dev nD) (V : Valuation τ sig (Elt F)) : (held (SparseCore.T d) kept V : sProp 𝕄)
    = iprop((tLoc d ↦{fullShare} V (buf main_v7)) ∗ (iLoc d ↦{fullShare} V (buf main_v6)) ∗ (oLoc d ↦{fullShare} V (buf main_v8))
      ∗ ((SparseCore.T d).loc main_v9 ↦{fullShare} V (buf main_v9)) ∗ ((SparseCore.T d).loc main_arg0 ↦{fullShare} V (buf main_arg0))
      ∗ ((SparseCore.T d).loc main_arg1 ↦{fullShare} V (buf main_arg1))) := by
  unfold held kept
  rw [SparseCore.bigSep_insert' (by decide), SparseCore.bigSep_insert' (by decide), SparseCore.bigSep_insert' (by decide),
    SparseCore.bigSep_insert' (by decide), SparseCore.bigSep_insert' (by decide), bigSep_singleton]

theorem held_two (d : Dev nD) (V : Valuation τ sig (Elt F)) : (held (SparseCore.T d) {buf main_v8, buf main_v9} V : sProp 𝕄)
    = iprop((oLoc d ↦{fullShare} V (buf main_v8)) ∗ ((SparseCore.T d).loc main_v9 ↦{fullShare} V (buf main_v9))) := by
  unfold held
  rw [SparseCore.bigSep_insert' (by decide), bigSep_singleton]

/-- What the arrays hold after the call. -/
def after_ (d : Dev nD) : Valuation τ sig (Elt F) := Function.update (before_ m d) (buf main_v8) (outVal (tabOf m d) (idxOf m d))

theorem after_v8 (d : Dev nD) : after_ m d (buf main_v8) = outVal (tabOf m d) (idxOf m d) := Function.update_self ..
theorem after_v9 (d : Dev nD) : after_ m d (buf main_v9) = before_ m d (buf main_v9) := Function.update_of_ne (by decide) ..

theorem result_v9 (d : Dev nD) : (opAfter (F := F)).result (after_ m d) (buf main_v9) = resultOf m d := by
  unfold opAfter buf
  rw [StableHlo.reshape_result]
  unfold resultOf
  rw [← after_v8]
  rfl

theorem opAfter_sub : (opAfter (F := F)).bufs ⊆ {buf main_v8, buf main_v9} :=
  show ({buf main_v8, buf main_v9} : Finset (DevRef τ sig)) ⊆ {buf main_v8, buf main_v9} from subset_rfl

/-- What the program leaves: the result and the arguments. -/
abbrev FIN (d : Dev nD) : sProp 𝕄 := iprop(((SparseCore.T d).loc main_v9 ↦{fullShare} resultOf m d)
  ∗ ((SparseCore.T d).loc main_arg0 ↦{fullShare} m ((SparseCore.T d).loc main_arg0)) ∗ ((SparseCore.T d).loc main_arg1 ↦{fullShare} m ((SparseCore.T d).loc main_arg1)))

theorem st0_eq (d : Dev nD) : (bigSep Finset.univ fun c : Fin ((K (F := F)).nCore 0) => (P m).st 0 d c) = bigSep Finset.univ (taken m d) :=
  bigSep_cast nCore_zero (taken m d)
theorem dn0_eq (d : Dev nD) : (bigSep Finset.univ fun c : Fin ((K (F := F)).nCore 0) => (P m).dn 0 d c) = bigSep Finset.univ (brought m d) :=
  bigSep_cast nCore_zero (brought m d)
theorem deal_to (d : Dev nD) : iprop((tLoc d ↦{fullShare} tabOf m d) ∗ (iLoc d ↦{fullShare} idxOf m d) ∗ (oLoc d ↦{fullShare} outOf m d))
    ⊢ bigSep Finset.univ (taken m d) := by
  rw [show taken m d = fun c => bigSep Finset.univ fun s => dealt d (coordsV c s) (tabOf m d) (idxOf m d) (outOf m d) by
    funext c; unfold taken dealtTo; rfl]
  exact deal d (tabOf m d) (idxOf m d) (outOf m d)
theorem gather_from (d : Dev nD) : bigSep Finset.univ (brought m d) ⊢ oLoc d ↦{fullShare} outVal (tabOf m d) (idxOf m d) := by
  rw [show brought m d = fun c => bigSep Finset.univ fun s => handed d (coordsV c s) (tabOf m d) (idxOf m d) by
    funext c; unfold brought handedBy; rfl]
  exact gather_back d (tabOf m d) (idxOf m d)

theorem split_kept (d : Dev nD) : (held (SparseCore.T d) (Pipeline.ucRefs τ sig) (before_ m d) : sProp 𝕄)
    ⊢ iprop((tLoc d ↦{fullShare} tabOf m d) ∗ (iLoc d ↦{fullShare} idxOf m d) ∗ (oLoc d ↦{fullShare} outOf m d)
      ∗ ((SparseCore.T d).loc main_v9 ↦{fullShare} before_ m d (buf main_v9))
      ∗ ((SparseCore.T d).loc main_arg0 ↦{fullShare} m ((SparseCore.T d).loc main_arg0)) ∗ ((SparseCore.T d).loc main_arg1 ↦{fullShare} m ((SparseCore.T d).loc main_arg1))) := by
  rw [held_sub_split (SparseCore.T d) kept_sub, held_kept, before_arg0, before_arg1]
  exact sep_elim_left

theorem launch_held (d : Dev nD) : (unscopedBufs d (fun b => m ((SparseCore.T d).loc b)) : sProp 𝕄)
    = held (SparseCore.T d) (Pipeline.ucRefs τ sig) (launchContents m d) := Pipeline.unscopedBufs_held d (launchContents m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held, main_cut]
  iintro ⟨#Hctx, Hst, ⟨Hb, Hheld, Hts, -⟩, -⟩
  iapply (wp_seq 𝒱 none Set.univ d (Pipeline.ucRefs τ sig) (fun _ => sc.run d 0 >>= fun _ => hlo rfl opAfter (fun _ => .ret PUnit.unit) >>= fun _ => pure PUnit.unit) opsBefore
    (fun op hop => Pipeline.sub_ucRefs op (List.forall_iff_forall_mem.mp opsBefore_sub op hop)) opsBefore_fresh (launchContents m d)) $$ [Hb Hheld]
  · isplitl [Hb] <;> iassumption
  iintro ⟨Hb, Hheld⟩
  ihave Hheld := (split_kept m d) $$ [Hheld]
  · iexact Hheld
  icases Hheld with ⟨Ht, Hi, Ho, H9, H0, H1⟩
  rw [wp_bind]
  ihave Hdealt := (deal_to m d) $$ [Ht Hi Ho]
  · isplitl [Ht]; · iexact Ht
    isplitl [Hi] <;> iassumption
  iapply ((K (F := F)).wp_run (D (F := F)) 𝒱 (EH := EH) (P := P m) κ d 0) $$ [Hst Hdealt Hb Hts H9 H0 H1]
  isplitr; · iexact Hctx
  isplitl [Hst]; · iexact Hst
  isplitl [Hdealt]
  · rw [st0_eq]; iexact Hdealt
  iintro ⟨Hst, Hdn⟩
  ihave Ho := ((Entails.of_eq (dn0_eq m d)).trans (gather_from m d)) $$ Hdn
  rw [wp_bind]
  iapply (wp_hlo_within 𝒱 (SparseCore.T d) none Set.univ (op := opAfter) (S := {buf main_v8, buf main_v9}) opAfter_sub (V := after_ m d)) $$ [Hb Ho H9]
  · isplitl [Hb]; · iexact Hb
    rw [held_two, after_v8, after_v9]
    isplitl [Ho] <;> iassumption
  iintro ⟨Hb, Hheld⟩
  ihave Hh := (Entails.of_eq (held_two (F := F) d _)) $$ Hheld
  icases Hh with ⟨-, H9⟩
  ihave H9 := (Entails.of_eq (congrArg (fun f => ((SparseCore.T d).loc main_v9 ↦{fullShare} f : sProp 𝕄)) (result_v9 m d))) $$ H9
  rw [wp_ret]; imodintro
  rw [wp_pure]; imodintro
  isplitl [Hst]; · iexact Hst
  isplitr [Hb Hts]
  · isplitl [H9]; · iexact H9
    isplitl [H0] <;> iassumption
  isplitl [Hb] <;> iassumption

/-! ## The end -/

/-- What the final memory holds. -/
def Ends (d : Dev nD) (s : Phys nD τ sig (Elt F)) : Prop :=
  s.mem.mem ((SparseCore.T d).loc main_v9) = resultOf m d ∧ s.mem.mem ((SparseCore.T d).loc main_arg0) = m ((SparseCore.T d).loc main_arg0)
    ∧ s.mem.mem ((SparseCore.T d).loc main_arg1) = m ((SparseCore.T d).loc main_arg1)

/-- An array held whole says what the memory holds there. -/
theorem agree (s : Phys nD τ sig (Elt F)) (ℓ : Loc nD τ sig) (f : Buf (Elt F) ℓ) :
    iprop((ℓ ↦{fullShare} f) ∗ SI s) ⊢ (iprop(⌜s.mem.mem ℓ = f⌝ ∗ SI s) : sProp 𝕄) := by
  iintro ⟨H, HSI⟩
  ihave H := (persistent_entails_right (SI_pointsTo_agree (st := s) (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

set_option maxRecDepth 16384 in
theorem hfin (d : Dev nD) (s : Phys nD τ sig (Elt F)) : iprop(FIN m d ∗ SI s) ⊢ (⌜Ends m d s⌝ : sProp 𝕄) := by
  iintro ⟨⟨H9, H0, H1⟩, HSI⟩
  ihave H := (agree s _ _) $$ [H9 HSI]
  · isplitl [H9] <;> iassumption
  icases H with ⟨%h9, HSI⟩
  ihave H := (agree s _ _) $$ [H0 HSI]
  · isplitl [H0] <;> iassumption
  icases H with ⟨%h0, HSI⟩
  ihave H := (agree s _ _) $$ [H1 HSI]
  · isplitl [H1] <;> iassumption
  icases H with ⟨%h1, HSI⟩
  ipureintro
  exact ⟨h9, h0, h1⟩

/-- The result's contents, the arguments unchanged, every counter at zero. -/
def Done : PUnit × MemSt nD τ sig (Elt F) → Prop := fun r => (∀ d : Dev nD, r.2.mem ((SparseCore.T d).loc main_v9) = resultOf m d
    ∧ r.2.mem ((SparseCore.T d).loc main_arg0) = m ((SparseCore.T d).loc main_arg0) ∧ r.2.mem ((SparseCore.T d).loc main_arg1) = m ((SparseCore.T d).loc main_arg1))
  ∧ r.2.sem = fun _ => 0

/-- Every run of the program ends so, if the row numbers name rows of the table. -/
theorem run_main [∀ e, Nonempty (Elt F e)] (h : InRows m) :
    θ_run (Cert.KernelIdeal.defs (F := F)) (Cert.KernelIdeal.threads (F := F)) ⟨m, fun _ => 0, ρ⟩ (Done m) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m h)
    (fun q _ => match q with | 0 => SparseCore.Cfg.VecSplit.of_plain (vecSplit m))
    m ρ main (fun _ => iprop(emp)) (FIN m) (u₀ (F := F)) (sep_elim_left.trans (hu₀ m)) (hmain m ρ) (Ends m) (hfin m) (Done m) (fun _ h hz => ⟨h, hz⟩)

end Cert.Proof.Unpool

end
-- ==== Proof.Values.lean ====
/-
  What the host operations before the call make of the arguments, entry by entry: the table is the input's rows, and each
  list alternates between an edge's row numbers in the first half of the batch and the same numbers in the second.
-/
module

public import proofs.«01_k».proof.Proof.Launch
public import proofs.«01_k».proof.Proof.Gen.Pre_idx_in_rows
public import Idealize.ShloMosaic.Lib.ReduceAll

@[expose] public section

noncomputable section

namespace Cert.Proof.Unpool

open Cert.KernelIdeal Cert.KernelIdeal.Gen
open Idealize.ShloMosaic
open Idealize.ShloMosaic.SparseCore (S V T)
open Idealize.ShloMosaic.SparseCore.Cfg (HIx Pay)
open Idealize.ShloMosaic.StableHlo (seq after held held_sub_split launchContents wp_seq wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-- The arguments' contents. -/
abbrev inputOf (d : Dev nD) : S2x10000x128.Idx → Elt F .f32 := m ((SparseCore.T d).loc main_arg0)
abbrev pairsOf (d : Dev nD) : S160000x2.Idx → Elt F .i32 := m ((SparseCore.T d).loc main_arg1)

theorem tab_eq (d : Dev nD) : tabOf m d = shapeCast S20000x128 (inputOf m d) shapeCasts_S2x10000x128_S20000x128 := by
  unfold tabOf before_; after_results <;> rfl

/-- The row numbers, a list of 125 chunks of eighty per tile. -/
abbrev pairRows (d : Dev nD) : S32x125x80.Idx → BitVec 32 := shapeCast S32x125x80 (pairsOf m d) shapeCasts_S160000x2_S32x125x80

theorem idx_eq (d : Dev nD) : idxOf m d = shapeCast S32x250x80
    (concatenate S32x125x2x80 2 [⟨S32x125x1x80, broadcastInDim S32x125x1x80 ![0, 1, 3] bcast_S32x125x80_S32x125x1x80_0_1_3 (pairRows m d)⟩,
      ⟨S32x125x1x80, broadcastInDim S32x125x1x80 ![0, 1, 3] bcast_S32x125x80_S32x125x1x80_0_1_3
        (addi (pairRows m d) (broadcastInDim S32x125x80 ![] bcast_S_S32x125x80 (constantI S_ 32 10000#32)))⟩]
      concatenates_S32x125x1x80_S32x125x1x80_S32x125x2x80_d2) shapeCasts_S32x125x2x80_S32x250x80 := by
  unfold idxOf before_; after_results <;> rfl

theorem at_tab (h : S2x10000x128.ShapeCasts S20000x128) (b : Fin 2) (n : Fin 10000) (q : Fin 128) :
    Shape.reshapeEquiv h (ix2 (⟨b.val * 10000 + n.val, by omega⟩ : Fin 20000) q : S20000x128.Idx) = (ix3 b n q : S2x10000x128.Idx) := by
  refine Shape.reshapeEquiv_eq_of_rowMajor h ?_
  rw [rowMajor_val3 _ 1280000 128 (by decide) (by decide), rowMajor_val2 _ 128 (by decide)]
  show b.val * 1280000 + n.val * 128 + q.val = (b.val * 10000 + n.val) * 128 + q.val
  omega

theorem at_pair (h : S160000x2.ShapeCasts S32x125x80) (w : Fin 32) (g : Fin 125) (i : Fin 80) :
    Shape.reshapeEquiv h (ix3 w g i : S32x125x80.Idx)
      = (ix2 (⟨w.val * 5000 + g.val * 40 + i.val / 2, by omega⟩ : Fin 160000) (⟨i.val % 2, by omega⟩ : Fin 2) : S160000x2.Idx) := by
  refine Shape.reshapeEquiv_eq_of_rowMajor h ?_
  rw [rowMajor_val2 _ 2 (by decide), rowMajor_val3 _ 10000 80 (by decide) (by decide)]
  show (w.val * 5000 + g.val * 40 + i.val / 2) * 2 + i.val % 2 = w.val * 10000 + g.val * 80 + i.val
  omega

theorem at_list (h : S32x125x2x80.ShapeCasts S32x250x80) (w : Fin 32) (g : Fin 125) (b : Fin 2) (i : Fin 80) :
    Shape.reshapeEquiv h (ix3 w (⟨2 * g.val + b.val, by omega⟩ : Fin 250) i : S32x250x80.Idx) = (ix4 w g b i : S32x125x2x80.Idx) := by
  refine Shape.reshapeEquiv_eq_of_rowMajor h ?_
  rw [rowMajor_val4 _ 20000 160 80 (by decide) (by decide) (by decide), rowMajor_val3 _ 20000 80 (by decide) (by decide)]
  show w.val * 20000 + g.val * 160 + b.val * 80 + i.val = w.val * 20000 + (2 * g.val + b.val) * 80 + i.val
  omega

theorem tab_apply (d : Dev nD) (b : Fin 2) (n : Fin 10000) (q : Fin 128) :
    tabOf m d (ix2 (⟨b.val * 10000 + n.val, by omega⟩ : Fin 20000) q) = inputOf m d (ix3 b n q) := by
  rw [tab_eq, Pointwise.shapeCast_apply, at_tab]

theorem rows_apply (d : Dev nD) (w : Fin 32) (g : Fin 125) (i : Fin 80) :
    pairRows m d (ix3 w g i) = pairsOf m d (ix2 (⟨w.val * 5000 + g.val * 40 + i.val / 2, by omega⟩ : Fin 160000) (⟨i.val % 2, by omega⟩ : Fin 2)) := by
  unfold pairRows
  rw [Pointwise.shapeCast_apply, at_pair]

theorem idx_apply (d : Dev nD) (w : Fin 32) (g : Fin 125) (b : Fin 2) (i : Fin 80) :
    idxOf m d (ix3 w (⟨2 * g.val + b.val, by omega⟩ : Fin 250) i)
      = if b.val = 0 then pairRows m d (ix3 w g i) else pairRows m d (ix3 w g i) + 10000#32 := by
  rw [idx_eq, Pointwise.shapeCast_apply, at_list]
  generalize pairRows m d = f
  pointwise
  obtain ⟨b, hb⟩ := b
  match b, hb with
  | 0, _ => rfl
  | 1, _ => rfl

/-- An edge's row numbers, in the table: the second half of the batch lies ten thousand rows below the first. -/
theorem idx_toNat (d : Dev nD) (h : ∀ x, (pairsOf m d x).toNat < 10000) (w : Fin 32) (g : Fin 125) (b : Fin 2) (i : Fin 80) :
    (idxOf m d (ix3 w (⟨2 * g.val + b.val, by omega⟩ : Fin 250) i)).toNat
      = b.val * 10000 + (pairsOf m d (ix2 (⟨w.val * 5000 + g.val * 40 + i.val / 2, by omega⟩ : Fin 160000) (⟨i.val % 2, by omega⟩ : Fin 2))).toNat := by
  have hx := h (ix2 (⟨w.val * 5000 + g.val * 40 + i.val / 2, by omega⟩ : Fin 160000) (⟨i.val % 2, by omega⟩ : Fin 2))
  rw [idx_apply, rows_apply]
  obtain ⟨b, hb⟩ := b
  match b, hb with
  | 0, _ => simp
  | 1, _ =>
    show (_ + 10000#32 : BitVec 32).toNat = 1 * 10000 + _
    rw [BitVec.toNat_add]
    show (_ + 10000) % 2 ^ 32 = _
    omega

/-- Row numbers below ten thousand make lists that name rows of the table. -/
theorem idx_lt (d : Dev nD) (h : ∀ x, (pairsOf m d x).toNat < 10000) (w : Fin 32) (c : Fin 250) (i : Fin 80) : (idxOf m d (ix3 w c i)).toNat < 20000 := by
  have hx := idx_toNat m d h w ⟨c.val / 2, by omega⟩ ⟨c.val % 2, by omega⟩ i
  have hp := h (ix2 (⟨w.val * 5000 + c.val / 2 * 40 + i.val / 2, by omega⟩ : Fin 160000) (⟨i.val % 2, by omega⟩ : Fin 2))
  rw [show c = (⟨2 * (c.val / 2) + c.val % 2, by omega⟩ : Fin 250) from Fin.ext (by show c.val = 2 * (c.val / 2) + c.val % 2; omega)]
  refine lt_of_eq_of_lt hx (lt_of_lt_of_le (Nat.add_lt_add_left hp _) ?_)
  show c.val % 2 * 10000 + 10000 ≤ 20000
  omega

theorem inRows (h : ∀ (d : Dev nD) x, (pairsOf m d x).toNat < 10000) : InRows m := by
  intro d x
  rw [eq_ix3 x]
  exact idx_lt m d (h d) _ _ _

/-! ## The result, entry by entry -/

/-- A row number as a row of the inputs. -/
def inRow (n : ℕ) : Fin 10000 := ⟨n % 10000, Nat.mod_lt _ (by omega)⟩

theorem at_result (h : S340000x128.ShapeCasts S2x170000x128) (b : Fin 2) (r : Fin 170000) (q : Fin 128) :
    Shape.reshapeEquiv h (ix3 b r q : S2x170000x128.Idx) = (ix2 (⟨b.val * 170000 + r.val, by omega⟩ : Fin 340000) q : S340000x128.Idx) := by
  refine Shape.reshapeEquiv_eq_of_rowMajor h ?_
  rw [rowMajor_val2 _ 128 (by decide), rowMajor_val3 _ 21760000 128 (by decide) (by decide)]
  show (b.val * 170000 + r.val) * 128 + q.val = b.val * 21760000 + r.val * 128 + q.val
  omega

/-- The result's first rows are the inputs'. -/
theorem result_input (d : Dev nD) (b : Fin 2) (r : Fin 170000) (hr : r.val < 10000) (q : Fin 128) :
    resultOf m d (ix3 b r q) = inputOf m d (ix3 b (⟨r.val, hr⟩ : Fin 10000) q) := by
  unfold resultOf
  rw [Pointwise.shapeCast_apply, at_result]
  show outAt _ _ ⟨b.val * 170000 + r.val, _⟩ q = _
  have e1 : (b.val * 170000 + r.val) % 170000 = r.val := by omega
  have e2 : (b.val * 170000 + r.val) / 170000 = b.val := by omega
  unfold outAt
  rw [dif_pos (show (b.val * 170000 + r.val) % 170000 < 10000 by omega), ← tab_apply]
  exact congrArg (fun n => tabOf m d (ix2 n q)) (Fin.ext <| by
    show (b.val * 170000 + r.val) / 170000 * 10000 + (b.val * 170000 + r.val) % 170000 = b.val * 10000 + r.val
    rw [e1, e2])

/-- The table's row for an entry of an edge's list. -/
theorem tab_row (d : Dev nD) (h : ∀ x, (pairsOf m d x).toNat < 10000) (b : Fin 2) (e : Fin 160000) (k : Fin 2) (q : Fin 128)
    (w : Fin 32) (c : Fin 250) (i : Fin 80) (hw : w.val = e.val / 5000) (hc : c.val = 2 * (e.val % 5000 / 40) + b.val) (hi : i.val = 2 * (e.val % 40) + k.val) :
    tabOf m d (ix2 (tabRow (listOf (idxOf m d) w (ix2 c i)).toNat) q) = inputOf m d (ix3 b (inRow (pairsOf m d (ix2 e k)).toNat) q) := by
  have hn := h (ix2 e k)
  have hl : (listOf (idxOf m d) w (ix2 c i)).toNat = b.val * 10000 + (pairsOf m d (ix2 e k)).toNat := by
    have hx := idx_toNat m d h w ⟨e.val % 5000 / 40, by omega⟩ b i
    rw [show c = (⟨2 * (e.val % 5000 / 40) + b.val, by omega⟩ : Fin 250) from Fin.ext hc]
    refine hx.trans (congrArg (fun j => b.val * 10000 + (pairsOf m d j).toNat) ((ix2_inj _ _ _ _).2 ⟨Fin.ext ?_, Fin.ext ?_⟩))
    · show w.val * 5000 + e.val % 5000 / 40 * 40 + i.val / 2 = e.val; omega
    · show i.val % 2 = k.val; omega
  rw [hl, ← tab_apply]
  exact congrArg (fun n => tabOf m d (ix2 n q)) (Fin.ext <| by
    show (b.val * 10000 + (pairsOf m d (ix2 e k)).toNat) % 20000 = b.val * 10000 + (pairsOf m d (ix2 e k)).toNat % 10000
    omega)

/-- The others are half the sums of the rows that the edges name. -/
theorem result_edge (d : Dev nD) (h : ∀ x, (pairsOf m d x).toNat < 10000) (b : Fin 2) (r : Fin 170000) (hr : ¬ r.val < 10000) (q : Fin 128) :
    resultOf m d (ix3 b r q) = avg (inputOf m d (ix3 b (inRow (pairsOf m d (ix2 (⟨r.val - 10000, by omega⟩ : Fin 160000) (0 : Fin 2))).toNat) q))
      (inputOf m d (ix3 b (inRow (pairsOf m d (ix2 (⟨r.val - 10000, by omega⟩ : Fin 160000) (1 : Fin 2))).toNat) q)) := by
  unfold resultOf
  rw [Pointwise.shapeCast_apply, at_result]
  show outAt _ _ ⟨b.val * 170000 + r.val, _⟩ q = _
  have e1 : (b.val * 170000 + r.val) % 170000 = r.val := by omega
  have e2 : (b.val * 170000 + r.val) / 170000 = b.val := by omega
  unfold outAt
  rw [dif_neg (show ¬ (b.val * 170000 + r.val) % 170000 < 10000 by omega)]
  unfold avgAt
  rw [tab_row m d h b ⟨r.val - 10000, by omega⟩ 0 q _ _ _ (by simp only [e1]) (by simp only [e1, e2]) (by simp [e1]),
    tab_row m d h b ⟨r.val - 10000, by omega⟩ 1 q _ _ _ (by simp only [e1]) (by simp only [e1, e2]) (by simp [e1])]

/-! ## The precondition -/

/-- The precondition says that every row number names a row of the inputs. -/
theorem pairs_lt (x0 : FVec F Cert.Pre_idx_in_rows.S2x10000x128 .f32) (x1 : IVec Cert.Pre_idx_in_rows.S160000x2 32)
    (h : Cert.Pre_idx_in_rows.fn (F := F) x0 x1 = fun _ => 1#1) (x : Cert.Pre_idx_in_rows.S160000x2.Idx) : (x1 x).toNat < 10000 := by
  have h0 := congrFun h (fun a => a.elim0)
  unfold Cert.Pre_idx_in_rows.fn at h0
  have hx := Host.reduce_andi_all _ _ _ _ _ h0 x
  have hand : ∀ p q : BitVec 1, IntOp.andi p q = 1#1 → p = 1#1 ∧ q = 1#1 := by decide
  obtain ⟨hp, hq⟩ := hand _ _ hx
  have hp := IntOp.cmpi_sge.1 hp
  have hq := IntOp.cmpi_slt.1 hq
  change (0#32 : BitVec 32).toInt ≤ _ at hp
  change _ < (10000#32 : BitVec 32).toInt at hq
  rw [show (0#32 : BitVec 32).toInt = 0 by decide] at hp
  rw [show (10000#32 : BitVec 32).toInt = 10000 by decide] at hq
  rw [BitVec.toInt_eq_toNat_cond] at hp hq
  split at hp <;> split at hq <;> omega
end Cert.Proof.Unpool

end
-- ==== Proof.Reference.lean ====
/-
  The reference's value, entry by entry, and its equality with what the kernel leaves.
-/
module

public import proofs.«01_k».proof.Proof.Values
public import proofs.«01_k».proof.Proof.Gen.ReferenceIdeal.Run

@[expose] public section

noncomputable section

namespace Cert.Proof.Unpool

open Cert.ReferenceIdeal Cert.ReferenceIdeal.Gen
open Idealize.ShloMosaic Idealize.SL.Sem

/-- The reference's gather of the rows that the edges name. -/
abbrev pickDims : GatherDims S2x10000x128 S160000x2x1 S2x160000x2x128 := gather_S2x10000x128_S160000x2x1_S2x160000x2x128_03_1_n_n_1_2_21128

/-- The gather reads, for an edge and one of its two ends, the row named there, of the same half of the batch and the
    same lane; the row number is read signed and kept within the array. -/
theorem pick_apply {α : Type} (x : S2x10000x128.Idx → α) (idx : IVec S160000x2x1 32) (b : Fin 2) (e : Fin 160000) (k : Fin 2) (q : Fin 128) :
    Host.gather pickDims x idx (ix4 b e k q) = x (ix3 b (⟨min (idx (ix3 e k (0 : Fin 1))).toInt.toNat 9999, by omega⟩ : Fin 10000) q) := by
  unfold Host.gather
  congr 1
  funext a
  refine Fin.ext ?_
  show pickDims.start (ix4 b e k q) idx a + pickDims.batchCoord (ix4 b e k q) a + pickDims.offCoord (ix4 b e k q) a = _
  rw [GatherDims.batchCoord_eq_zero _ _ _ List.not_mem_nil]
  match a with
  | 0 =>
    show pickDims.start _ idx (0 : Fin 3) + 0 + pickDims.offCoord _ (0 : Fin 3) = b.val
    unfold GatherDims.start GatherDims.offCoord
    rw [dif_neg (show ¬ (0 : Fin 3) ∈ pickDims.startIndexMap by decide), dif_pos (show (0 : Fin 3) ∈ pickDims.sKept by decide)]
    exact (Nat.zero_add _).trans rfl
  | 1 =>
    show pickDims.start _ idx (1 : Fin 3) + 0 + pickDims.offCoord _ (1 : Fin 3) = min (idx (ix3 e k (0 : Fin 1))).toInt.toNat 9999
    rw [GatherDims.offCoord_eq_zero _ _ _ (show ¬ (1 : Fin 3) ∈ pickDims.sKept by decide)]
    unfold GatherDims.start
    rw [dif_pos (show (1 : Fin 3) ∈ pickDims.startIndexMap by decide),
      show pickDims.siIdx (ix4 b e k q) ⟨pickDims.startIndexMap.idxOf 1, List.idxOf_lt_length_iff.2 (show (1 : Fin 3) ∈ pickDims.startIndexMap by decide)⟩
        = ix3 e k (0 : Fin 1) by
      funext c
      match c with
      | 0 => rfl
      | 1 => rfl
      | 2 => rfl]
    rfl
  | 2 =>
    show pickDims.start _ idx (2 : Fin 3) + 0 + pickDims.offCoord _ (2 : Fin 3) = q.val
    unfold GatherDims.start GatherDims.offCoord
    rw [dif_neg (show ¬ (2 : Fin 3) ∈ pickDims.startIndexMap by decide), dif_pos (show (2 : Fin 3) ∈ pickDims.sKept by decide)]
    exact (Nat.zero_add _).trans rfl

/-- The reference's row numbers: negative ones would count from the end. -/
abbrev wrapped (x1 : IVec S160000x2 32) : IVec S160000x2x1 32 :=
  broadcastInDim S160000x2x1 ![0, 1] bcast_S160000x2_S160000x2x1_0_1 (select (cmpi .slt x1 (broadcastInDim S160000x2 ![] bcast_S_S160000x2 (constantI S_ 32 0#32)))
    (addi x1 (broadcastInDim S160000x2 ![] bcast_S_S160000x2 (constantI S_ 32 10000#32))) x1)

/-- There are none. -/
theorem wrapped_apply (x1 : IVec S160000x2 32) (h : ∀ x, (x1 x).toNat < 10000) (e : Fin 160000) (k : Fin 2) :
    wrapped x1 (ix3 e k (0 : Fin 1)) = x1 (ix2 e k) := by
  have hx := h (ix2 e k)
  unfold wrapped
  pointwise
  refine Scalar.select_of_ne_one (fun hc => ?_) _ _
  have := IntOp.cmpi_slt.1 hc
  rw [BitVec.toInt_eq_toNat_cond, if_pos (by omega), show (0#32 : BitVec 32).toInt = 0 by decide] at this
  omega

/-- The row an edge names, as the gather reads it. -/
theorem row_eq {v : BitVec 32} (h : v.toNat < 10000) : (⟨min v.toInt.toNat 9999, by omega⟩ : Fin 10000) = inRow v.toNat := by
  refine Fin.ext ?_
  show min v.toInt.toNat 9999 = v.toNat % 10000
  rw [BitVec.toInt_eq_toNat_cond, if_pos (by omega)]
  omega

theorem pick_row {α : Type} (x : S2x10000x128.Idx → α) (idx : IVec S160000x2x1 32) (b : Fin 2) (e : Fin 160000) (k : Fin 2) (q : Fin 128) {v : BitVec 32}
    (hv : idx (ix3 e k (0 : Fin 1)) = v) (h : v.toNat < 10000) : Host.gather pickDims x idx (ix4 b e k q) = x (ix3 b (inRow v.toNat) q) := by
  subst hv
  rw [pick_apply, row_eq h]

/-- The reference's result. -/
abbrev refVal (x0 : FVec Ideal S2x10000x128 .f32) (x1 : IVec S160000x2 32) : FVec Ideal S2x170000x128 .f32 :=
  concatenate S2x170000x128 1 [⟨S2x10000x128, x0⟩, ⟨S2x160000x128, mulf (broadcastInDim S2x160000x128 ![] bcast_S_S2x160000x128 (constant S_ .f32 0x3F000000#32))
    (Host.reduceAdd (Host.gather pickDims x0 (wrapped x1)) (constant S_ .f32 0x00000000#32) reducesTo_S2x160000x2x128_S2x160000x128_d2 h_S_)⟩]
    concatenates_S2x10000x128_S2x160000x128_S2x170000x128_d1

/-- Its first rows are the inputs'; the others are half the sums of the rows that the edges name. -/
theorem ref_apply (x0 : FVec Ideal S2x10000x128 .f32) (x1 : IVec S160000x2 32) (h : ∀ x, (x1 x).toNat < 10000) (b : Fin 2) (r : Fin 170000) (q : Fin 128) :
    refVal x0 x1 (ix3 b r q) = if hr : r.val < 10000 then x0 (ix3 b (⟨r.val, hr⟩ : Fin 10000) q)
      else avg (F := Ideal) (x0 (ix3 b (inRow (x1 (ix2 (⟨r.val - 10000, by omega⟩ : Fin 160000) (0 : Fin 2))).toNat) q))
        (x0 (ix3 b (inRow (x1 (ix2 (⟨r.val - 10000, by omega⟩ : Fin 160000) (1 : Fin 2))).toNat) q)) := by
  have hw := wrapped_apply x1 h
  unfold refVal
  generalize wrapped x1 = f at hw ⊢
  pointwise
  split
  · rfl
  · rw [Fin.sum_univ_two, pick_row _ _ _ _ _ _ (hw _ _) (h _), pick_row _ _ _ _ _ _ (hw _ _) (h _)]
    rfl

/-- What the kernel leaves is the reference's result. -/
theorem result_eq (m : (ℓ : Loc Cert.KernelIdeal.nD Cert.KernelIdeal.τ Cert.KernelIdeal.sig) → Buf (Elt Ideal) ℓ) (d : Dev Cert.KernelIdeal.nD)
    (h : ∀ x, (pairsOf m d x).toNat < 10000) : resultOf m d = refVal (inputOf m d) (pairsOf m d) := by
  have at_ (b : Fin 2) (r : Fin 170000) (q : Fin 128) : resultOf m d (ix3 b r q) = refVal (inputOf m d) (pairsOf m d) (ix3 b r q) := by
    refine Eq.trans ?_ (ref_apply (inputOf m d) (pairsOf m d) h b r q).symm
    split
    · exact result_input m d _ _ ‹_› _
    · exact result_edge m d h _ _ ‹_› _
  funext x
  rw [eq_ix3 x]
  exact at_ _ _ _

end Cert.Proof.Unpool

end
-- ==== Proof.lean ====
/-
  The claims about the averaging unpool. The kernel and its ideal form have one text, so one run, over any float values,
  gives both frames and the value: each entry of the result is an input's, or half the sum of the two inputs' entries that
  an edge names. The reference's value is the same, entry by entry.
-/
module

public import proofs.«01_k».proof.Defs
public import proofs.«01_k».proof.Proof.Gen.Kernel
public import proofs.«01_k».proof.Proof.Reference
public import Idealize.ShloMosaic.Adequacy
public import Idealize.ShloMosaic.Init

@[expose] public section

noncomputable section

namespace Cert.Proof

open Idealize.ShloMosaic Idealize.SL.Sem

/-- The kernel on bits: it ends, its arguments unchanged and every counter at zero. -/
theorem frame_kernel : Cert.quiescent_Kernel := fun m ρ h =>
  (θ_run Cert.KernelIdeal.defs _ _).mono (fun _ hr => ⟨fun c => (hr.1 c).2, hr.2⟩)
    (Unpool.run_main (F := Bits) m ρ (Unpool.inRows m fun d x => Unpool.pairs_lt _ _ (h d) x))

/-- The same over the extended reals. -/
theorem frame_ideal : Cert.quiescent_KernelIdeal := fun m ρ h =>
  (θ_run Cert.KernelIdeal.defs _ _).mono (fun _ hr => ⟨fun c => (hr.1 c).2, hr.2⟩)
    (Unpool.run_main (F := Ideal) m ρ (Unpool.inRows m fun d x => Unpool.pairs_lt _ _ (h d) x))

/-- The reference ends so from any memory; it has no counters. -/
theorem frame_reference : Cert.quiescent_ReferenceIdeal := fun m ρ _ =>
  (θ_run Cert.ReferenceIdeal.defs _ _).mono (fun r hr => ⟨fun c => (hr c).2, sem_eq_zero_of_no_sems (by decide) r.2⟩)
    (Cert.ReferenceIdeal.Value.run (F := Ideal) m ρ)

theorem frame_reference_pre : Cert.quiescent_ReferenceIdeal_pre_idx_in_rows := fun m ρ _ => frame_reference m ρ trivial

/-- The kernel's result over the extended reals is the reference's. -/
theorem value : Cert.algebraic_KernelIdeal_ReferenceIdeal := fun m ρ m' ρ' h hm =>
  have hp : ∀ d x, (Unpool.pairsOf m d x).toNat < 10000 := fun d x => Unpool.pairs_lt _ _ (h d) x
  ⟨Unpool.resultOf m,
    (θ_run Cert.KernelIdeal.defs _ _).mono (fun _ hr => hr.1) (Unpool.run_main (F := Ideal) m ρ (Unpool.inRows m hp)),
    (θ_run Cert.ReferenceIdeal.defs _ _).mono (fun _ hr c => ⟨(hr c).1.trans (by
        rw [(hm c).1, (hm c).2]
        exact (Unpool.result_eq m c (hp c)).symm), (hr c).2⟩)
      (Cert.ReferenceIdeal.Value.run (F := Ideal) m' ρ')⟩

theorem claim : Cert.Claim := ⟨Cert.Kernel.Gen.facts, Cert.KernelIdeal.Gen.facts, Cert.ReferenceIdeal.Gen.facts, Cert.Pre_idx_in_rows.Gen.facts,
  frame_kernel, frame_ideal, frame_reference, frame_reference_pre, trivial, value⟩

end Cert.Proof

end
